-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Experts (m : (ℓ : Loc Cert.Experts.nD Cert.Experts.τ Cert.Experts.sig) → Buf (Elt Bits) ℓ) : Prop :=
  True

def Pre_ExpertsIdeal (m : (ℓ : Loc Cert.ExpertsIdeal.nD Cert.ExpertsIdeal.τ Cert.ExpertsIdeal.sig) → Buf (Elt Ideal) ℓ) : Prop :=
  True

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Experts [hExperts : Cert.Experts.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4))
      ∧ r.2.sem = fun _ => 0)

def quiescent_ExpertsIdeal [hExpertsIdeal : Cert.ExpertsIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2)
      ∧ r.2.mem ((c.tc : Thread Cert.InProjReferenceIdeal.nD Cert.InProjReferenceIdeal.τ).loc Cert.InProjReferenceIdeal.main_arg3) = m ((c.tc : Thread Cert.InProjReferenceIdeal.nD Cert.InProjReferenceIdeal.τ).loc Cert.InProjReferenceIdeal.main_arg3))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Experts_ExpertsIdeal : Prop :=
  True

def algebraic_ExpertsIdeal_ExpertsReferenceIdeal [hExpertsIdeal : Cert.ExpertsIdeal.Facts] [hExpertsReferenceIdeal : Cert.ExpertsReferenceIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)) →
    ∃ (v0 : (c : Dev Cert.ExpertsIdeal.nD) → Buf (Elt Ideal) ((c.tc : Thread Cert.ExpertsIdeal.nD Cert.ExpertsIdeal.τ).loc Cert.ExpertsIdeal.main_v8)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v8) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v10) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)
      ∧ m' ((c.tc : Thread Cert.InProjReferenceIdeal.nD Cert.InProjReferenceIdeal.τ).loc Cert.InProjReferenceIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v68)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v68) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v27) = v0 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2)
          ∧ r.2.mem ((c.tc : Thread Cert.InProjReferenceIdeal.nD Cert.InProjReferenceIdeal.τ).loc Cert.InProjReferenceIdeal.main_arg3) = m' ((c.tc : Thread Cert.InProjReferenceIdeal.nD Cert.InProjReferenceIdeal.τ).loc Cert.InProjReferenceIdeal.main_arg3))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hExpertsReferenceIdeal : Cert.ExpertsReferenceIdeal.Facts) (hInProj : Cert.InProj.Facts) (hInProjIdeal : Cert.InProjIdeal.Facts) (hInProjReferenceIdeal : Cert.InProjReferenceIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Experts (hExperts := hExperts)
    ∧ quiescent_ExpertsIdeal (hExpertsIdeal := hExpertsIdeal)
    ∧ quiescent_ExpertsReferenceIdeal (hExpertsReferenceIdeal := hExpertsReferenceIdeal)
    ∧ quiescent_InProj (hInProj := hInProj)
    ∧ quiescent_InProjIdeal (hInProjIdeal := hInProjIdeal)
    ∧ quiescent_InProjReferenceIdeal (hInProjReferenceIdeal := hInProjReferenceIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Experts_ExpertsIdeal
    ∧ algebraic_ExpertsIdeal_ExpertsReferenceIdeal (hExpertsIdeal := hExpertsIdeal) (hExpertsReferenceIdeal := hExpertsReferenceIdeal)
    ∧ preserves_InProj_InProjIdeal
    ∧ algebraic_InProjIdeal_InProjReferenceIdeal (hInProjIdeal := hInProjIdeal) (hInProjReferenceIdeal := hInProjReferenceIdeal)
-- ==== Pre_finite_scores.lean ====
abbrev S2x8192x8x192 : Shape := ⟨4, ![2, 8192, 8, 192]⟩
abbrev S2x256x8x192 : Shape := ⟨4, ![2, 256, 8, 192]⟩
abbrev S2x256x8x128 : Shape := ⟨4, ![2, 256, 8, 128]⟩
abbrev S2x8192x8x128 : Shape := ⟨4, ![2, 8192, 8, 128]⟩
abbrev S_ : Shape := ⟨0, ![]⟩

class Facts : Prop where
  bcast_S_S2x8192x8x192 : S_.BroadcastsInDim S2x8192x8x192 (![] : Fin 0 → Fin S2x8192x8x192.rank)
  reducesTo_S2x8192x8x192_S_d0_1_2_3 : S2x8192x8x192.ReducesTo [0, 1, 2, 3] S_
  h_S_ : 0 < S_.numel
  bcast_S_S2x256x8x192 : S_.BroadcastsInDim S2x256x8x192 (![] : Fin 0 → Fin S2x256x8x192.rank)
  reducesTo_S2x256x8x192_S_d0_1_2_3 : S2x256x8x192.ReducesTo [0, 1, 2, 3] S_

variable [Facts]

def fn {F : FTy → Type} [FloatOps F] (main_arg0 : FVec F S2x8192x8x192 .f32) (main_arg1 : FVec F S2x256x8x192 .f32) (main_arg2 : FVec F S2x256x8x128 .f32) (main_arg3 : FVec F S2x8192x8x192 .f32) (main_arg4 : FVec F S2x8192x8x128 .f32) : IVec S_ 1 :=
  let main_v0 : FVec F S2x8192x8x192 .f32 := Host.absf main_arg0
  let main_cst : FVec F S_ .f32 := constant S_ .f32 0x7F800000#32
  let main_v1 : FVec F S2x8192x8x192 .f32 := broadcastInDim S2x8192x8x192 ![] bcast_S_S2x8192x8x192 main_cst
  let main_v2 : IVec S2x8192x8x192 1 := cmpf .olt main_v0 main_v1
  let main_c : IVec S_ 1 := constantI S_ 1 1#1
  let main_v3 : IVec S_ 1 := (fun x v => Host.reduce IntOp.andi x v reducesTo_S2x8192x8x192_S_d0_1_2_3 h_S_) main_v2 main_c
  let main_v4 : FVec F S2x256x8x192 .f32 := Host.absf main_arg1
  let main_cst_0 : FVec F S_ .f32 := constant S_ .f32 0x7F800000#32
  let main_v5 : FVec F S2x256x8x192 .f32 := broadcastInDim S2x256x8x192 ![] bcast_S_S2x256x8x192 main_cst_0
  let main_v6 : IVec S2x256x8x192 1 := cmpf .olt main_v4 main_v5
  let main_c_1 : IVec S_ 1 := constantI S_ 1 1#1
  let main_v7 : IVec S_ 1 := (fun x v => Host.reduce IntOp.andi x v reducesTo_S2x256x8x192_S_d0_1_2_3 h_S_) main_v6 main_c_1
  let main_v8 : IVec S_ 1 := andi main_v3 main_v7
  let main_v9 : FVec F S2x8192x8x192 .f32 := Host.absf main_arg3
  let main_cst_2 : FVec F S_ .f32 := constant S_ .f32 0x7F800000#32
  let main_v10 : FVec F S2x8192x8x192 .f32 := broadcastInDim S2x8192x8x192 ![] bcast_S_S2x8192x8x192 main_cst_2
  let main_v11 : IVec S2x8192x8x192 1 := cmpf .olt main_v9 main_v10
  let main_c_3 : IVec S_ 1 := constantI S_ 1 1#1
  let main_v12 : IVec S_ 1 := (fun x v => Host.reduce IntOp.andi x v reducesTo_S2x8192x8x192_S_d0_1_2_3 h_S_) main_v11 main_c_3
  let main_v13 : IVec S_ 1 := andi main_v8 main_v12
  main_v13
-- ==== Kernel.lean ====
abbrev S2x8192x8x192 : Shape := ⟨4, ![2, 8192, 8, 192]⟩
abbrev S2x256x8x192 : Shape := ⟨4, ![2, 256, 8, 192]⟩
abbrev S2x256x8x128 : Shape := ⟨4, ![2, 256, 8, 128]⟩
abbrev S2x8192x8x128 : Shape := ⟨4, ![2, 8192, 8, 128]⟩
abbrev S_ : Shape := ⟨0, ![]⟩
abbrev S2x8192x8x256 : Shape := ⟨4, ![2, 8192, 8, 256]⟩
abbrev S2x8192x2048 : Shape := ⟨3, ![2, 8192, 2048]⟩
abbrev S2x256x8x256 : Shape := ⟨4, ![2, 256, 8, 256]⟩
abbrev S2x256x2048 : Shape := ⟨3, ![2, 256, 2048]⟩
abbrev S2x256x1024 : Shape := ⟨3, ![2, 256, 1024]⟩
abbrev S2x8192x1024 : Shape := ⟨3, ![2, 8192, 1024]⟩
abbrev S1 : Shape := ⟨1, ![1]⟩
abbrev S2x256x8 : Shape := ⟨3, ![2, 256, 8]⟩
abbrev S2x8x256x256 : Shape := ⟨4, ![2, 8, 256, 256]⟩
abbrev S2x2048x256 : Shape := ⟨3, ![2, 2048, 256]⟩
abbrev S2x8192x8 : Shape := ⟨3, ![2, 8192, 8]⟩
abbrev S2x8x256x8192 : Shape := ⟨4, ![2, 8, 256, 8192]⟩
abbrev S2x2048x8192 : Shape := ⟨3, ![2, 2048, 8192]⟩
abbrev S1x1024x256 : Shape := ⟨3, ![1, 1024, 256]⟩
abbrev S1x256x256 : Shape := ⟨3, ![1, 256, 256]⟩
abbrev S1x256x1024 : Shape := ⟨3, ![1, 256, 1024]⟩
abbrev S1x1024x128 : Shape := ⟨3, ![1, 1024, 128]⟩
abbrev S1x1024 : Shape := ⟨2, ![1, 1024]⟩
abbrev S256x1024 : Shape := ⟨2, ![256, 1024]⟩
abbrev S256x256 : Shape := ⟨2, ![256, 256]⟩
abbrev S1x512x256 : Shape := ⟨3, ![1, 512, 256]⟩
abbrev S512x256 : Shape := ⟨2, ![512, 256]⟩
abbrev S256x512 : Shape := ⟨2, ![256, 512]⟩
abbrev S1x512 : Shape := ⟨2, ![1, 512]⟩
abbrev S512 : Shape := ⟨1, ![512]⟩
abbrev S1024x256 : Shape := ⟨2, ![1024, 256]⟩
abbrev S1024x512 : Shape := ⟨2, ![1024, 512]⟩
abbrev S128x1024 : Shape := ⟨2, ![128, 1024]⟩
abbrev S1024x128 : Shape := ⟨2, ![1024, 128]⟩

abbrev nBuf : Space → Nat
  | .hbm => 50
  | .vmem => 14
  | .smem => 0
  | _ => 0

abbrev bufTy : (tb : Table) → Fin (tcTables nBuf tb) → BufTy
  | .hbm, ⟨0, _⟩ => ⟨S2x8192x8x192, .f32⟩
  | .hbm, ⟨1, _⟩ => ⟨S2x256x8x192, .f32⟩
  | .hbm, ⟨2, _⟩ => ⟨S2x256x8x128, .f32⟩
  | .hbm, ⟨3, _⟩ => ⟨S2x8192x8x192, .f32⟩
  | .hbm, ⟨4, _⟩ => ⟨S2x8192x8x128, .f32⟩
  | .hbm, ⟨5, _⟩ => ⟨S_, .f32⟩
  | .hbm, ⟨6, _⟩ => ⟨S2x8192x8x192, .f32⟩
  | .hbm, ⟨7, _⟩ => ⟨S2x8192x8x192, .f32⟩
  | .hbm, ⟨8, _⟩ => ⟨S_, .i32⟩
  | .hbm, ⟨9, _⟩ => ⟨S_, .f32⟩
  | .hbm, ⟨10, _⟩ => ⟨S2x8192x8x256, .f32⟩
  | .hbm, ⟨11, _⟩ => ⟨S2x8192x2048, .f32⟩
  | .hbm, ⟨12, _⟩ => ⟨S2x8192x2048, .bf16⟩
  | .hbm, ⟨13, _⟩ => ⟨S_, .i32⟩
  | .hbm, ⟨14, _⟩ => ⟨S_, .f32⟩
  | .hbm, ⟨15, _⟩ => ⟨S2x256x8x256, .f32⟩
  | .hbm, ⟨16, _⟩ => ⟨S2x256x2048, .f32⟩
  | .hbm, ⟨17, _⟩ => ⟨S2x256x2048, .bf16⟩
  | .hbm, ⟨18, _⟩ => ⟨S2x256x1024, .f32⟩
  | .hbm, ⟨19, _⟩ => ⟨S2x256x1024, .bf16⟩
  | .hbm, ⟨20, _⟩ => ⟨S_, .i32⟩
  | .hbm, ⟨21, _⟩ => ⟨S_, .f32⟩
  | .hbm, ⟨22, _⟩ => ⟨S2x8192x8x256, .f32⟩
  | .hbm, ⟨23, _⟩ => ⟨S2x8192x2048, .f32⟩
  | .hbm, ⟨24, _⟩ => ⟨S2x8192x2048, .bf16⟩
  | .hbm, ⟨25, _⟩ => ⟨S2x8192x1024, .f32⟩
  | .hbm, ⟨26, _⟩ => ⟨S2x8192x1024, .bf16⟩
  | .hbm, ⟨27, _⟩ => ⟨S_, .bf16⟩
  | .hbm, ⟨28, _⟩ => ⟨S2x256x8x128, .bf16⟩
  | .hbm, ⟨29, _⟩ => ⟨S_, .i32⟩
  | .hbm, ⟨30, _⟩ => ⟨S1, .i32⟩
  | .hbm, ⟨31, _⟩ => ⟨S_, .bf16⟩
  | .hbm, ⟨32, _⟩ => ⟨S2x256x8, .bf16⟩
  | .hbm, ⟨33, _⟩ => ⟨S2x256x8x128, .bf16⟩
  | .hbm, ⟨34, _⟩ => ⟨S2x256x8x128, .bf16⟩
  | .hbm, ⟨35, _⟩ => ⟨S2x256x8x256, .bf16⟩
  | .hbm, ⟨36, _⟩ => ⟨S2x8x256x256, .bf16⟩
  | .hbm, ⟨37, _⟩ => ⟨S2x2048x256, .bf16⟩
  | .hbm, ⟨38, _⟩ => ⟨S_, .bf16⟩
  | .hbm, ⟨39, _⟩ => ⟨S2x8192x8x128, .bf16⟩
  | .hbm, ⟨40, _⟩ => ⟨S_, .i32⟩
  | .hbm, ⟨41, _⟩ => ⟨S1, .i32⟩
  | .hbm, ⟨42, _⟩ => ⟨S_, .bf16⟩
  | .hbm, ⟨43, _⟩ => ⟨S2x8192x8, .bf16⟩
  | .hbm, ⟨44, _⟩ => ⟨S2x8192x8x128, .bf16⟩
  | .hbm, ⟨45, _⟩ => ⟨S2x8192x8x128, .bf16⟩
  | .hbm, ⟨46, _⟩ => ⟨S2x8192x8x256, .bf16⟩
  | .hbm, ⟨47, _⟩ => ⟨S2x8x256x8192, .bf16⟩
  | .hbm, ⟨48, _⟩ => ⟨S2x2048x8192, .bf16⟩
  | .hbm, ⟨49, _⟩ => ⟨S2x8192x1024, .bf16⟩
  | .local _ .vmem, ⟨0, _⟩ => ⟨S1x1024x256, .bf16⟩
  | .local _ .vmem, ⟨1, _⟩ => ⟨S1x1024x256, .bf16⟩
  | .local _ .vmem, ⟨2, _⟩ => ⟨S1x256x256, .bf16⟩
  | .local _ .vmem, ⟨3, _⟩ => ⟨S1x256x256, .bf16⟩
  | .local _ .vmem, ⟨4, _⟩ => ⟨S1x256x256, .bf16⟩
  | .local _ .vmem, ⟨5, _⟩ => ⟨S1x256x256, .bf16⟩
  | .local _ .vmem, ⟨6, _⟩ => ⟨S1x1024x256, .bf16⟩
  | .local _ .vmem, ⟨7, _⟩ => ⟨S1x1024x256, .bf16⟩
  | .local _ .vmem, ⟨8, _⟩ => ⟨S1x256x1024, .bf16⟩
  | .local _ .vmem, ⟨9, _⟩ => ⟨S1x256x1024, .bf16⟩
  | .local _ .vmem, ⟨10, _⟩ => ⟨S1x1024x128, .bf16⟩
  | .local _ .vmem, ⟨11, _⟩ => ⟨S1x1024x128, .bf16⟩
  | .local _ .vmem, ⟨12, _⟩ => ⟨S1x1024, .f32⟩
  | .local _ .vmem, ⟨13, _⟩ => ⟨S256x1024, .f32⟩
  | _, _ => ⟨S2x8192x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_call1_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_1 : Ref sig .tc := ⟨.hbm, 20, rfl⟩
abbrev main_call2_v0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_c_3 : Ref sig .tc := ⟨.hbm, 29, rfl⟩
abbrev main_v16 : Ref sig .tc := ⟨.hbm, 30, rfl⟩
abbrev main_cst_4 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_c_6 : Ref sig .tc := ⟨.hbm, 40, rfl⟩
abbrev main_v24 : Ref sig .tc := ⟨.hbm, 41, rfl⟩
abbrev main_cst_7 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨4, ![2, 8, 8, 9], ![false, false, false, false]⟩

def k0_cond3 (i : grid0.Coords) : BitVec 1 :=
  let arg3 : BitVec 32 := BitVec.ofNat 32 (i 3).val
  let c8_i32 : BitVec 32 := 8#32
  let v6 : BitVec 1 := Scalar.cmpi .eq arg3 c8_i32
  let v7 : BitVec 32 := Scalar.extui v6
  let c0_i32_3 : BitVec 32 := 0#32
  let v8 : BitVec 1 := Scalar.cmpi .ne v7 c0_i32_3
  v8

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.subi arg3 c1_i32
  let c0_i32 : BitVec 32 := 0#32
  let v1 : BitVec 32 := Scalar.maxsi v0 c0_i32
  let c0_i32_0 : BitVec 32 := 0#32
  ![arg0.toNat, v1.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.subi arg3 c1_i32
  let c0_i32 : BitVec 32 := 0#32
  let v1 : BitVec 32 := Scalar.maxsi v0 c0_i32
  let c0_i32_0 : BitVec 32 := 0#32
  ![arg0.toNat, arg1.toNat, v1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, false]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, false]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false, true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false, true]

abbrev stage0_5 : Fin 2 → Memref sig .tc .vmem S1x1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true, false]
-- ==== ReferenceIdeal.lean ====
abbrev S2x8192x8x192 : Shape := ⟨4, ![2, 8192, 8, 192]⟩
abbrev S2x256x8x192 : Shape := ⟨4, ![2, 256, 8, 192]⟩
abbrev S2x256x8x128 : Shape := ⟨4, ![2, 256, 8, 128]⟩
abbrev S2x8192x8x128 : Shape := ⟨4, ![2, 8192, 8, 128]⟩
abbrev S2x8448x8x192 : Shape := ⟨4, ![2, 8448, 8, 192]⟩
abbrev S2x8448x8x128 : Shape := ⟨4, ![2, 8448, 8, 128]⟩
abbrev S2x8x8192x8448 : Shape := ⟨4, ![2, 8, 8192, 8448]⟩
abbrev S_ : Shape := ⟨0, ![]⟩
abbrev S2x8x8192 : Shape := ⟨3, ![2, 8, 8192]⟩
abbrev S2x8x8192x1 : Shape := ⟨4, ![2, 8, 8192, 1]⟩
abbrev S2x8x128x8192 : Shape := ⟨4, ![2, 8, 128, 8192]⟩
abbrev S2x8192x1024 : Shape := ⟨3, ![2, 8192, 1024]⟩

abbrev nBuf : Space → Nat
  | .hbm => 29
  | .vmem => 0
  | .smem => 0
  | _ => 0

abbrev bufTy : (tb : Table) → Fin (tcTables nBuf tb) → BufTy
  | .hbm, ⟨0, _⟩ => ⟨S2x8192x8x192, .f32⟩
  | .hbm, ⟨1, _⟩ => ⟨S2x256x8x192, .f32⟩
  | .hbm, ⟨2, _⟩ => ⟨S2x256x8x128, .f32⟩
  | .hbm, ⟨3, _⟩ => ⟨S2x8192x8x192, .f32⟩
  | .hbm, ⟨4, _⟩ => ⟨S2x8192x8x128, .f32⟩
  | .hbm, ⟨5, _⟩ => ⟨S2x8448x8x192, .f32⟩
  | .hbm, ⟨6, _⟩ => ⟨S2x8448x8x128, .f32⟩
  | .hbm, ⟨7, _⟩ => ⟨S2x8x8192x8448, .f32⟩
  | .hbm, ⟨8, _⟩ => ⟨S_, .f32⟩
  | .hbm, ⟨9, _⟩ => ⟨S2x8x8192x8448, .f32⟩
  | .hbm, ⟨10, _⟩ => ⟨S2x8x8192x8448, .f32⟩
  | .hbm, ⟨11, _⟩ => ⟨S_, .f32⟩
  | .hbm, ⟨12, _⟩ => ⟨S2x8x8192, .f32⟩
  | .hbm, ⟨13, _⟩ => ⟨S_, .f32⟩
  | .hbm, ⟨14, _⟩ => ⟨S2x8x8192, .f32⟩
  | .hbm, ⟨15, _⟩ => ⟨S2x8x8192, .f32⟩
  | .hbm, ⟨16, _⟩ => ⟨S2x8x8192x1, .f32⟩
  | .hbm, ⟨17, _⟩ => ⟨S2x8x8192x8448, .f32⟩
  | .hbm, ⟨18, _⟩ => ⟨S2x8x8192x8448, .f32⟩
  | .hbm, ⟨19, _⟩ => ⟨S2x8x8192x8448, .f32⟩
  | .hbm, ⟨20, _⟩ => ⟨S_, .f32⟩
  | .hbm, ⟨21, _⟩ => ⟨S2x8x8192, .f32⟩
  | .hbm, ⟨22, _⟩ => ⟨S2x8x8192x1, .f32⟩
  | .hbm, ⟨23, _⟩ => ⟨S2x8x8192x8448, .f32⟩
  | .hbm, ⟨24, _⟩ => ⟨S2x8x8192x8448, .f32⟩
  | .hbm, ⟨25, _⟩ => ⟨S2x8x128x8192, .f32⟩
  | .hbm, ⟨26, _⟩ => ⟨S2x8192x8x128, .f32⟩
  | .hbm, ⟨27, _⟩ => ⟨S2x8192x1024, .f32⟩
  | .hbm, ⟨28, _⟩ => ⟨S2x8192x1024, .bf16⟩
  | _, _ => ⟨S2x8192x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== Experts.lean ====
abbrev S2x16x1024x2048 : Shape := ⟨4, ![2, 16, 1024, 2048]⟩
abbrev S2x16x1024 : Shape := ⟨3, ![2, 16, 1024]⟩
abbrev S16x2048x1408 : Shape := ⟨3, ![16, 2048, 1408]⟩
abbrev S16x1408x2048 : Shape := ⟨3, ![16, 1408, 2048]⟩
abbrev S2x16x1024x1 : Shape := ⟨4, ![2, 16, 1024, 1]⟩
abbrev S_ : Shape := ⟨0, ![]⟩
abbrev S16x1536x2048 : Shape := ⟨3, ![16, 1536, 2048]⟩
abbrev S16x2048x1536 : Shape := ⟨3, ![16, 2048, 1536]⟩
abbrev S1x1x1024x2048 : Shape := ⟨4, ![1, 1, 1024, 2048]⟩
abbrev S1x1x1024x1 : Shape := ⟨4, ![1, 1, 1024, 1]⟩
abbrev S1x2048x512 : Shape := ⟨3, ![1, 2048, 512]⟩
abbrev S1x512x2048 : Shape := ⟨3, ![1, 512, 2048]⟩
abbrev S1024x2048 : Shape := ⟨2, ![1024, 2048]⟩
abbrev S2048x512 : Shape := ⟨2, ![2048, 512]⟩
abbrev S1024x512 : Shape := ⟨2, ![1024, 512]⟩
abbrev S512x2048 : Shape := ⟨2, ![512, 2048]⟩
abbrev S1024x1 : Shape := ⟨2, ![1024, 1]⟩

abbrev nBuf : Space → Nat
  | .hbm => 20
  | .vmem => 12
  | .smem => 0
  | _ => 0

abbrev bufTy : (tb : Table) → Fin (tcTables nBuf tb) → BufTy
  | .hbm, ⟨0, _⟩ => ⟨S2x16x1024x2048, .f32⟩
  | .hbm, ⟨1, _⟩ => ⟨S2x16x1024, .f32⟩
  | .hbm, ⟨2, _⟩ => ⟨S16x2048x1408, .f32⟩
  | .hbm, ⟨3, _⟩ => ⟨S16x2048x1408, .f32⟩
  | .hbm, ⟨4, _⟩ => ⟨S16x1408x2048, .f32⟩
  | .hbm, ⟨5, _⟩ => ⟨S2x16x1024x2048, .bf16⟩
  | .hbm, ⟨6, _⟩ => ⟨S2x16x1024x1, .f32⟩
  | .hbm, ⟨7, _⟩ => ⟨S_, .i32⟩
  | .hbm, ⟨8, _⟩ => ⟨S_, .f32⟩
  | .hbm, ⟨9, _⟩ => ⟨S16x1536x2048, .f32⟩
  | .hbm, ⟨10, _⟩ => ⟨S16x1536x2048, .bf16⟩
  | .hbm, ⟨11, _⟩ => ⟨S_, .i32⟩
  | .hbm, ⟨12, _⟩ => ⟨S_, .f32⟩
  | .hbm, ⟨13, _⟩ => ⟨S16x2048x1536, .f32⟩
  | .hbm, ⟨14, _⟩ => ⟨S16x2048x1536, .bf16⟩
  | .hbm, ⟨15, _⟩ => ⟨S_, .i32⟩
  | .hbm, ⟨16, _⟩ => ⟨S_, .f32⟩
  | .hbm, ⟨17, _⟩ => ⟨S16x2048x1536, .f32⟩
  | .hbm, ⟨18, _⟩ => ⟨S16x2048x1536, .bf16⟩
  | .hbm, ⟨19, _⟩ => ⟨S2x16x1024x2048, .f32⟩
  | .local _ .vmem, ⟨0, _⟩ => ⟨S1x1x1024x2048, .bf16⟩
  | .local _ .vmem, ⟨1, _⟩ => ⟨S1x1x1024x2048, .bf16⟩
  | .local _ .vmem, ⟨2, _⟩ => ⟨S1x1x1024x1, .f32⟩
  | .local _ .vmem, ⟨3, _⟩ => ⟨S1x1x1024x1, .f32⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x2048x512, .bf16⟩
  | .local _ .vmem, ⟨8, _⟩ => ⟨S1x512x2048, .bf16⟩
  | .local _ .vmem, ⟨9, _⟩ => ⟨S1x512x2048, .bf16⟩
  | .local _ .vmem, ⟨10, _⟩ => ⟨S1x1x1024x2048, .f32⟩
  | .local _ .vmem, ⟨11, _⟩ => ⟨S1x1x1024x2048, .f32⟩
  | _, _ => ⟨S2x16x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_call1_v0 : Ref sig .tc := ⟨.hbm, 12, rfl⟩
abbrev main_v4 : Ref sig .tc := ⟨.hbm, 13, rfl⟩
abbrev main_v5 : Ref sig .tc := ⟨.hbm, 14, rfl⟩
abbrev main_c_1 : Ref sig .tc := ⟨.hbm, 15, rfl⟩
abbrev main_call2_v0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 2, 3], ![false, false, false]⟩

def k0_cond1 (i : grid0.Coords) : BitVec 1 :=
  let arg2 : BitVec 32 := BitVec.ofNat 32 (i 2).val
  let c0_i32 : BitVec 32 := 0#32
  let v15 : BitVec 1 := Scalar.cmpi .eq arg2 c0_i32
  let v16 : BitVec 32 := Scalar.extui v15
  let c0_i32_14 : BitVec 32 := 0#32
  let v17 : BitVec 1 := Scalar.cmpi .ne v16 c0_i32_14
  v17

def k0_cond2 (i : grid0.Coords) : BitVec 1 :=
  let arg2 : BitVec 32 := BitVec.ofNat 32 (i 2).val
  let c0_i32_15 : BitVec 32 := 0#32
  let v18 : BitVec 1 := Scalar.cmpi .sgt arg2 c0_i32_15
  let v19 : BitVec 32 := Scalar.extui v18
  let c0_i32_16 : BitVec 32 := 0#32
  let v20 : BitVec 1 := Scalar.cmpi .ne v19 c0_i32_16
  v20

def k0_cond3 (i : grid0.Coords) : BitVec 1 :=
  let arg2 : BitVec 32 := BitVec.ofNat 32 (i 2).val
  let c2_i32 : BitVec 32 := 2#32
  let v21 : BitVec 1 := Scalar.cmpi .eq arg2 c2_i32
  let v22 : BitVec 32 := Scalar.extui v21
  let c0_i32_17 : BitVec 32 := 0#32
  let v23 : BitVec 1 := Scalar.cmpi .ne v22 c0_i32_17
  v23

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S1x1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1x1x1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== ExpertsReferenceIdeal.lean ====
abbrev S2x16x1024x2048 : Shape := ⟨4, ![2, 16, 1024, 2048]⟩
abbrev S2x16x1024 : Shape := ⟨3, ![2, 16, 1024]⟩
abbrev S16x2048x1408 : Shape := ⟨3, ![16, 2048, 1408]⟩
abbrev S16x1408x2048 : Shape := ⟨3, ![16, 1408, 2048]⟩
abbrev S16x1408x2x1024 : Shape := ⟨4, ![16, 1408, 2, 1024]⟩
abbrev S2x16x1024x1408 : Shape := ⟨4, ![2, 16, 1024, 1408]⟩
abbrev S_ : Shape := ⟨0, ![]⟩
abbrev S16x2048x2x1024 : Shape := ⟨4, ![16, 2048, 2, 1024]⟩
abbrev S2x16x1024x1 : Shape := ⟨4, ![2, 16, 1024, 1]⟩

abbrev nBuf : Space → Nat
  | .hbm => 24
  | .vmem => 0
  | .smem => 0
  | _ => 0

abbrev bufTy : (tb : Table) → Fin (tcTables nBuf tb) → BufTy
  | .hbm, ⟨0, _⟩ => ⟨S2x16x1024x2048, .f32⟩
  | .hbm, ⟨1, _⟩ => ⟨S2x16x1024, .f32⟩
  | .hbm, ⟨2, _⟩ => ⟨S16x2048x1408, .f32⟩
  | .hbm, ⟨3, _⟩ => ⟨S16x2048x1408, .f32⟩
  | .hbm, ⟨4, _⟩ => ⟨S16x1408x2048, .f32⟩
  | .hbm, ⟨5, _⟩ => ⟨S16x1408x2x1024, .f32⟩
  | .hbm, ⟨6, _⟩ => ⟨S2x16x1024x1408, .f32⟩
  | .hbm, ⟨7, _⟩ => ⟨S2x16x1024x1408, .f32⟩
  | .hbm, ⟨8, _⟩ => ⟨S2x16x1024x1408, .f32⟩
  | .hbm, ⟨9, _⟩ => ⟨S_, .f32⟩
  | .hbm, ⟨10, _⟩ => ⟨S2x16x1024x1408, .f32⟩
  | .hbm, ⟨11, _⟩ => ⟨S2x16x1024x1408, .f32⟩
  | .hbm, ⟨12, _⟩ => ⟨S_, .f32⟩
  | .hbm, ⟨13, _⟩ => ⟨S2x16x1024x1408, .f32⟩
  | .hbm, ⟨14, _⟩ => ⟨S2x16x1024x1408, .f32⟩
  | .hbm, ⟨15, _⟩ => ⟨S2x16x1024x1408, .f32⟩
  | .hbm, ⟨16, _⟩ => ⟨S16x1408x2x1024, .f32⟩
  | .hbm, ⟨17, _⟩ => ⟨S2x16x1024x1408, .f32⟩
  | .hbm, ⟨18, _⟩ => ⟨S2x16x1024x1408, .f32⟩
  | .hbm, ⟨19, _⟩ => ⟨S16x2048x2x1024, .f32⟩
  | .hbm, ⟨20, _⟩ => ⟨S2x16x1024x2048, .f32⟩
  | .hbm, ⟨21, _⟩ => ⟨S2x16x1024x1, .f32⟩
  | .hbm, ⟨22, _⟩ => ⟨S2x16x1024x2048, .f32⟩
  | .hbm, ⟨23, _⟩ => ⟨S2x16x1024x2048, .f32⟩
  | _, _ => ⟨S2x16x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩

abbrev nD : Nat := 1
abbrev τ : Topo := Topo.v7x

variable {F : FTy → Type} [FloatOps F]
-- ==== InProj.lean ====
abbrev S2x8192x2048 : Shape := ⟨3, ![2, 8192, 2048]⟩
abbrev S2x2048 : Shape := ⟨2, ![2, 2048]⟩
abbrev S2048x18432 : Shape := ⟨2, ![2048, 18432]⟩
abbrev S16384x2048 : Shape := ⟨2, ![16384, 2048]⟩
abbrev S2x1x2048 : Shape := ⟨3, ![2, 1, 2048]⟩
abbrev S2048x1088 : Shape := ⟨2, ![2048, 1088]⟩
abbrev S2048x2592 : Shape := ⟨2, ![2048, 2592]⟩
abbrev S2048x3072 : Shape := ⟨2, ![2048, 3072]⟩
abbrev S2048x3488 : Shape := ⟨2, ![2048, 3488]⟩
abbrev S2048x8192 : Shape := ⟨2, ![2048, 8192]⟩
abbrev S2048x64 : Shape := ⟨2, ![2048, 64]⟩
abbrev S2048x1024 : Shape := ⟨2, ![2048, 1024]⟩
abbrev S2048x128 : Shape := ⟨2, ![2048, 128]⟩
abbrev S2048x160 : Shape := ⟨2, ![2048, 160]⟩
abbrev S2048x256 : Shape := ⟨2, ![2048, 256]⟩
abbrev S2048x32 : Shape := ⟨2, ![2048, 32]⟩
abbrev S2048x512 : Shape := ⟨2, ![2048, 512]⟩
abbrev S2048x16 : Shape := ⟨2, ![2048, 16]⟩
abbrev S_ : Shape := ⟨0, ![]⟩
abbrev S2048x18944 : Shape := ⟨2, ![2048, 18944]⟩
abbrev S16384x18944 : Shape := ⟨2, ![16384, 18944]⟩
abbrev S512x2048 : Shape := ⟨2, ![512, 2048]⟩
abbrev S1x1x2048 : Shape := ⟨3, ![1, 1, 2048]⟩
abbrev S512x512 : Shape := ⟨2, ![512, 512]⟩
abbrev S512 : Shape := ⟨1, ![512]⟩
abbrev S512x1 : Shape := ⟨2, ![512, 1]⟩
abbrev S1x2048 : Shape := ⟨2, ![1, 2048]⟩
abbrev S16384x1024 : Shape := ⟨2, ![16384, 1024]⟩
abbrev S16384x64 : Shape := ⟨2, ![16384, 64]⟩
abbrev S16384x512 : Shape := ⟨2, ![16384, 512]⟩
abbrev S16384x32 : Shape := ⟨2, ![16384, 32]⟩
abbrev S16384x3072 : Shape := ⟨2, ![16384, 3072]⟩
abbrev S16384x256 : Shape := ⟨2, ![16384, 256]⟩
abbrev S16384x160 : Shape := ⟨2, ![16384, 160]⟩
abbrev S16384x8192 : Shape := ⟨2, ![16384, 8192]⟩
abbrev S16384x18432 : Shape := ⟨2, ![16384, 18432]⟩
abbrev S2x8192x18432 : Shape := ⟨3, ![2, 8192, 18432]⟩

abbrev nBuf : Space → Nat
  | .hbm => 112
  | .vmem => 11
  | .smem => 0
  | _ => 0

abbrev bufTy : (tb : Table) → Fin (tcTables nBuf tb) → BufTy
  | .hbm, ⟨0, _⟩ => ⟨S2x8192x2048, .f32⟩
  | .hbm, ⟨1, _⟩ => ⟨S2x2048, .f32⟩
  | .hbm, ⟨2, _⟩ => ⟨S2x2048, .f32⟩
  | .hbm, ⟨3, _⟩ => ⟨S2048x18432, .f32⟩
  | .hbm, ⟨4, _⟩ => ⟨S16384x2048, .f32⟩
  | .hbm, ⟨5, _⟩ => ⟨S2x1x2048, .f32⟩
  | .hbm, ⟨6, _⟩ => ⟨S2x1x2048, .f32⟩
  | .hbm, ⟨7, _⟩ => ⟨S2048x1088, .f32⟩
  | .hbm, ⟨8, _⟩ => ⟨S2048x2592, .f32⟩
  | .hbm, ⟨9, _⟩ => ⟨S2048x3072, .f32⟩
  | .hbm, ⟨10, _⟩ => ⟨S2048x3488, .f32⟩
  | .hbm, ⟨11, _⟩ => ⟨S2048x8192, .f32⟩
  | .hbm, ⟨12, _⟩ => ⟨S2048x64, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x128, .f32⟩
  | .hbm, ⟨20, _⟩ => ⟨S2048x128, .f32⟩
  | .hbm, ⟨21, _⟩ => ⟨S2048x160, .f32⟩
  | .hbm, ⟨22, _⟩ => ⟨S2048x1024, .f32⟩
  | .hbm, ⟨23, _⟩ => ⟨S2048x1024, .f32⟩
  | .hbm, ⟨24, _⟩ => ⟨S2048x256, .f32⟩
  | .hbm, ⟨25, _⟩ => ⟨S2048x256, .f32⟩
  | .hbm, ⟨26, _⟩ => ⟨S2048x32, .f32⟩
  | .hbm, ⟨27, _⟩ => ⟨S2048x512, .f32⟩
  | .hbm, ⟨28, _⟩ => ⟨S2048x512, .f32⟩
  | .hbm, ⟨29, _⟩ => ⟨S2048x16, .f32⟩
  | .hbm, ⟨30, _⟩ => ⟨S2048x16, .f32⟩
  | .hbm, ⟨31, _⟩ => ⟨S2048x16, .f32⟩
  | .hbm, ⟨32, _⟩ => ⟨S2048x16, .f32⟩
  | .hbm, ⟨33, _⟩ => ⟨S2048x16, .f32⟩
  | .hbm, ⟨34, _⟩ => ⟨S2048x16, .f32⟩
  | .hbm, ⟨35, _⟩ => ⟨S2048x64, .f32⟩
  | .hbm, ⟨36, _⟩ => ⟨S_, .i32⟩
  | .hbm, ⟨37, _⟩ => ⟨S_, .f32⟩
  | .hbm, ⟨38, _⟩ => ⟨S2048x8192, .f32⟩
  | .hbm, ⟨39, _⟩ => ⟨S_, .i32⟩
  | .hbm, ⟨40, _⟩ => ⟨S_, .f32⟩
  | .hbm, ⟨41, _⟩ => ⟨S2048x1024, .f32⟩
  | .hbm, ⟨42, _⟩ => ⟨S_, .i32⟩
  | .hbm, ⟨43, _⟩ => ⟨S_, .f32⟩
  | .hbm, ⟨44, _⟩ => ⟨S2048x1024, .f32⟩
  | .hbm, ⟨45, _⟩ => ⟨S_, .i32⟩
  | .hbm, ⟨46, _⟩ => ⟨S_, .f32⟩
  | .hbm, ⟨47, _⟩ => ⟨S2048x1024, .f32⟩
  | .hbm, ⟨48, _⟩ => ⟨S_, .i32⟩
  | .hbm, ⟨49, _⟩ => ⟨S_, .f32⟩
  | .hbm, ⟨50, _⟩ => ⟨S2048x1024, .f32⟩
  | .hbm, ⟨51, _⟩ => ⟨S_, .i32⟩
  | .hbm, ⟨52, _⟩ => ⟨S_, .f32⟩
  | .hbm, ⟨53, _⟩ => ⟨S2048x1024, .f32⟩
  | .hbm, ⟨54, _⟩ => ⟨S_, .i32⟩
  | .hbm, ⟨55, _⟩ => ⟨S_, .f32⟩
  | .hbm, ⟨56, _⟩ => ⟨S2048x1024, .f32⟩
  | .hbm, ⟨57, _⟩ => ⟨S_, .i32⟩
  | .hbm, ⟨58, _⟩ => ⟨S_, .f32⟩
  | .hbm, ⟨59, _⟩ => ⟨S2048x1024, .f32⟩
  | .hbm, ⟨60, _⟩ => ⟨S_, .i32⟩
  | .hbm, ⟨61, _⟩ => ⟨S_, .f32⟩
  | .hbm, ⟨62, _⟩ => ⟨S2048x1024, .f32⟩
  | .hbm, ⟨63, _⟩ => ⟨S_, .i32⟩
  | .hbm, ⟨64, _⟩ => ⟨S_, .f32⟩
  | .hbm, ⟨65, _⟩ => ⟨S2048x512, .f32⟩
  | .hbm, ⟨66, _⟩ => ⟨S_, .i32⟩
  | .hbm, ⟨67, _⟩ => ⟨S_, .f32⟩
  | .hbm, ⟨68, _⟩ => ⟨S2048x512, .f32⟩
  | .hbm, ⟨69, _⟩ => ⟨S_, .i32⟩
  | .hbm, ⟨70, _⟩ => ⟨S_, .f32⟩
  | .hbm, ⟨71, _⟩ => ⟨S2048x256, .f32⟩
  | .hbm, ⟨72, _⟩ => ⟨S_, .i32⟩
  | .hbm, ⟨73, _⟩ => ⟨S_, .f32⟩
  | .hbm, ⟨74, _⟩ => ⟨S2048x256, .f32⟩
  | .hbm, ⟨75, _⟩ => ⟨S_, .i32⟩
  | .hbm, ⟨76, _⟩ => ⟨S_, .f32⟩
  | .hbm, ⟨77, _⟩ => ⟨S2048x256, .f32⟩
  | .hbm, ⟨78, _⟩ => ⟨S_, .i32⟩
  | .hbm, ⟨79, _⟩ => ⟨S_, .f32⟩
  | .hbm, ⟨80, _⟩ => ⟨S2048x128, .f32⟩
  | .hbm, ⟨81, _⟩ => ⟨S_, .i32⟩
  | .hbm, ⟨82, _⟩ => ⟨S_, .f32⟩
  | .hbm, ⟨83, _⟩ => ⟨S2048x128, .f32⟩
  | .hbm, ⟨84, _⟩ => ⟨S_, .i32⟩
  | .hbm, ⟨85, _⟩ => ⟨S_, .f32⟩
  | .hbm, ⟨86, _⟩ => ⟨S2048x128, .f32⟩
  | .hbm, ⟨87, _⟩ => ⟨S_, .i32⟩
  | .hbm, ⟨88, _⟩ => ⟨S_, .f32⟩
  | .hbm, ⟨89, _⟩ => ⟨S2048x128, .f32⟩
  | .hbm, ⟨90, _⟩ => ⟨S_, .i32⟩
  | .hbm, ⟨91, _⟩ => ⟨S_, .f32⟩
  | .hbm, ⟨92, _⟩ => ⟨S2048x128, .f32⟩
  | .hbm, ⟨93, _⟩ => ⟨S_, .f32⟩
  | .hbm, ⟨94, _⟩ => ⟨S2048x128, .f32⟩
  | .hbm, ⟨95, _⟩ => ⟨S2048x18432, .f32⟩
  | .hbm, ⟨96, _⟩ => ⟨S2048x512, .f32⟩
  | .hbm, ⟨97, _⟩ => ⟨S2048x18944, .f32⟩
  | .hbm, ⟨98, _⟩ => ⟨S2048x18944, .bf16⟩
  | .hbm, ⟨99, _⟩ => ⟨S16384x18944, .bf16⟩
  | .hbm, ⟨100, _⟩ => ⟨S16384x1024, .bf16⟩
  | .hbm, ⟨101, _⟩ => ⟨S16384x64, .bf16⟩
  | .hbm, ⟨102, _⟩ => ⟨S16384x2048, .bf16⟩
  | .hbm, ⟨103, _⟩ => ⟨S16384x512, .bf16⟩
  | .hbm, ⟨104, _⟩ => ⟨S16384x32, .bf16⟩
  | .hbm, ⟨105, _⟩ => ⟨S16384x3072, .bf16⟩
  | .hbm, ⟨106, _⟩ => ⟨S16384x3072, .bf16⟩
  | .hbm, ⟨107, _⟩ => ⟨S16384x256, .bf16⟩
  | .hbm, ⟨108, _⟩ => ⟨S16384x160, .bf16⟩
  | .hbm, ⟨109, _⟩ => ⟨S16384x8192, .bf16⟩
  | .hbm, ⟨110, _⟩ => ⟨S16384x18432, .bf16⟩
  | .hbm, ⟨111, _⟩ => ⟨S2x8192x18432, .bf16⟩
  | .local _ .vmem, ⟨0, _⟩ => ⟨S512x2048, .f32⟩
  | .local _ .vmem, ⟨1, _⟩ => ⟨S512x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S2048x512, .bf16⟩
  | .local _ .vmem, ⟨7, _⟩ => ⟨S2048x512, .bf16⟩
  | .local _ .vmem, ⟨8, _⟩ => ⟨S512x512, .bf16⟩
  | .local _ .vmem, ⟨9, _⟩ => ⟨S512x512, .bf16⟩
  | .local _ .vmem, ⟨10, _⟩ => ⟨S512x2048, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_c : Ref sig .tc := ⟨.hbm, 36, rfl⟩
abbrev main_call0_v0 : Ref sig .tc := ⟨.hbm, 37, rfl⟩
abbrev main_v32 : Ref sig .tc := ⟨.hbm, 38, rfl⟩
abbrev main_c_0 : Ref sig .tc := ⟨.hbm, 39, rfl⟩
abbrev main_call1_v0 : Ref sig .tc := ⟨.hbm, 40, rfl⟩
abbrev main_v33 : Ref sig .tc := ⟨.hbm, 41, rfl⟩
abbrev main_c_1 : Ref sig .tc := ⟨.hbm, 42, rfl⟩
abbrev main_call2_v0 : Ref sig .tc := ⟨.hbm, 43, rfl⟩
abbrev main_v34 : Ref sig .tc := ⟨.hbm, 44, rfl⟩
abbrev main_c_2 : Ref sig .tc := ⟨.hbm, 45, rfl⟩
abbrev main_call3_v0 : Ref sig .tc := ⟨.hbm, 46, rfl⟩
abbrev main_v35 : Ref sig .tc := ⟨.hbm, 47, rfl⟩
abbrev main_c_3 : Ref sig .tc := ⟨.hbm, 48, rfl⟩
abbrev main_call4_v0 : Ref sig .tc := ⟨.hbm, 49, rfl⟩
abbrev main_v36 : Ref sig .tc := ⟨.hbm, 50, rfl⟩
abbrev main_c_4 : Ref sig .tc := ⟨.hbm, 51, rfl⟩
abbrev main_call5_v0 : Ref sig .tc := ⟨.hbm, 52, rfl⟩
abbrev main_v37 : Ref sig .tc := ⟨.hbm, 53, rfl⟩
abbrev main_c_5 : Ref sig .tc := ⟨.hbm, 54, rfl⟩
abbrev main_call6_v0 : Ref sig .tc := ⟨.hbm, 55, rfl⟩
abbrev main_v38 : Ref sig .tc := ⟨.hbm, 56, rfl⟩
abbrev main_c_6 : Ref sig .tc := ⟨.hbm, 57, rfl⟩
abbrev main_call7_v0 : Ref sig .tc := ⟨.hbm, 58, rfl⟩
abbrev main_v39 : Ref sig .tc := ⟨.hbm, 59, rfl⟩
abbrev main_c_7 : Ref sig .tc := ⟨.hbm, 60, rfl⟩
abbrev main_call8_v0 : Ref sig .tc := ⟨.hbm, 61, rfl⟩
abbrev main_v40 : Ref sig .tc := ⟨.hbm, 62, rfl⟩
abbrev main_c_8 : Ref sig .tc := ⟨.hbm, 63, rfl⟩
abbrev main_call9_v0 : Ref sig .tc := ⟨.hbm, 64, rfl⟩
abbrev main_v41 : Ref sig .tc := ⟨.hbm, 65, rfl⟩
abbrev main_c_9 : Ref sig .tc := ⟨.hbm, 66, rfl⟩
abbrev main_call10_v0 : Ref sig .tc := ⟨.hbm, 67, rfl⟩
abbrev main_v42 : Ref sig .tc := ⟨.hbm, 68, rfl⟩
abbrev main_c_10 : Ref sig .tc := ⟨.hbm, 69, rfl⟩
abbrev main_call11_v0 : Ref sig .tc := ⟨.hbm, 70, rfl⟩
abbrev main_v43 : Ref sig .tc := ⟨.hbm, 71, rfl⟩
abbrev main_c_11 : Ref sig .tc := ⟨.hbm, 72, rfl⟩
abbrev main_call12_v0 : Ref sig .tc := ⟨.hbm, 73, rfl⟩
abbrev main_v44 : Ref sig .tc := ⟨.hbm, 74, rfl⟩
abbrev main_c_12 : Ref sig .tc := ⟨.hbm, 75, rfl⟩
abbrev main_call13_v0 : Ref sig .tc := ⟨.hbm, 76, rfl⟩
abbrev main_v45 : Ref sig .tc := ⟨.hbm, 77, rfl⟩
abbrev main_c_13 : Ref sig .tc := ⟨.hbm, 78, rfl⟩
abbrev main_call14_v0 : Ref sig .tc := ⟨.hbm, 79, rfl⟩
abbrev main_v46 : Ref sig .tc := ⟨.hbm, 80, rfl⟩
abbrev main_c_14 : Ref sig .tc := ⟨.hbm, 81, rfl⟩
abbrev main_call15_v0 : Ref sig .tc := ⟨.hbm, 82, rfl⟩
abbrev main_v47 : Ref sig .tc := ⟨.hbm, 83, rfl⟩
abbrev main_c_15 : Ref sig .tc := ⟨.hbm, 84, rfl⟩
abbrev main_call16_v0 : Ref sig .tc := ⟨.hbm, 85, rfl⟩
abbrev main_v48 : Ref sig .tc := ⟨.hbm, 86, rfl⟩
abbrev main_c_16 : Ref sig .tc := ⟨.hbm, 87, rfl⟩
abbrev main_call17_v0 : Ref sig .tc := ⟨.hbm, 88, rfl⟩
abbrev main_v49 : Ref sig .tc := ⟨.hbm, 89, rfl⟩
abbrev main_c_17 : Ref sig .tc := ⟨.hbm, 90, rfl⟩
abbrev main_call18_v0 : Ref sig .tc := ⟨.hbm, 91, rfl⟩
abbrev main_v50 : Ref sig .tc := ⟨.hbm, 92, rfl⟩
abbrev main_cst : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 37], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== InProjReferenceIdeal.lean ====
abbrev S2x8192x2048 : Shape := ⟨3, ![2, 8192, 2048]⟩
abbrev S2x2048 : Shape := ⟨2, ![2, 2048]⟩
abbrev S2048x18432 : Shape := ⟨2, ![2048, 18432]⟩
abbrev S_ : Shape := ⟨0, ![]⟩
abbrev S2x8192 : Shape := ⟨2, ![2, 8192]⟩
abbrev S2x8192x1 : Shape := ⟨3, ![2, 8192, 1]⟩
abbrev S2x1x2048 : Shape := ⟨3, ![2, 1, 2048]⟩
abbrev S2x8192x18432 : Shape := ⟨3, ![2, 8192, 18432]⟩

abbrev nBuf : Space → Nat
  | .hbm => 38
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2x2048, .f32⟩
  | .hbm, ⟨2, _⟩ => ⟨S2x2048, .f32⟩
  | .hbm, ⟨3, _⟩ => ⟨S2048x18432, .f32⟩
  | .hbm, ⟨4, _⟩ => ⟨S_, .f32⟩
  | .hbm, ⟨5, _⟩ => ⟨S2x8192, .f32⟩
  | .hbm, ⟨6, _⟩ => ⟨S2x8192x1, .f32⟩
  | .hbm, ⟨7, _⟩ => ⟨S_, .f32⟩
  | .hbm, ⟨8, _⟩ => ⟨S2x8192x1, .f32⟩
  | .hbm, ⟨9, _⟩ => ⟨S2x8192x1, .f32⟩
  | .hbm, ⟨10, _⟩ => ⟨S2x8192x2048, .f32⟩
  | .hbm, ⟨11, _⟩ => ⟨S2x8192x2048, .f32⟩
  | .hbm, ⟨12, _⟩ => ⟨S2x8192x2048, .f32⟩
  | .hbm, ⟨13, _⟩ => ⟨S_, .f32⟩
  | .hbm, ⟨14, _⟩ => ⟨S2x8192, .f32⟩
  | .hbm, ⟨15, _⟩ => ⟨S2x8192x1, .f32⟩
  | .hbm, ⟨16, _⟩ => ⟨S_, .f32⟩
  | .hbm, ⟨17, _⟩ => ⟨S2x8192x1, .f32⟩
  | .hbm, ⟨18, _⟩ => ⟨S2x8192x1, .f32⟩
  | .hbm, ⟨19, _⟩ => ⟨S2x8192x2048, .f32⟩
  | .hbm, ⟨20, _⟩ => ⟨S2x8192x2048, .f32⟩
  | .hbm, ⟨21, _⟩ => ⟨S_, .f32⟩
  | .hbm, ⟨22, _⟩ => ⟨S2x8192x1, .f32⟩
  | .hbm, ⟨23, _⟩ => ⟨S2x8192x1, .f32⟩
  | .hbm, ⟨24, _⟩ => ⟨S2x8192x1, .f32⟩
  | .hbm, ⟨25, _⟩ => ⟨S2x8192x2048, .f32⟩
  | .hbm, ⟨26, _⟩ => ⟨S2x8192x2048, .f32⟩
  | .hbm, ⟨27, _⟩ => ⟨S2x1x2048, .f32⟩
  | .hbm, ⟨28, _⟩ => ⟨S_, .f32⟩
  | .hbm, ⟨29, _⟩ => ⟨S2x1x2048, .f32⟩
  | .hbm, ⟨30, _⟩ => ⟨S2x1x2048, .f32⟩
  | .hbm, ⟨31, _⟩ => ⟨S2x8192x2048, .f32⟩
  | .hbm, ⟨32, _⟩ => ⟨S2x8192x2048, .f32⟩
  | .hbm, ⟨33, _⟩ => ⟨S2x1x2048, .f32⟩
  | .hbm, ⟨34, _⟩ => ⟨S2x8192x2048, .f32⟩
  | .hbm, ⟨35, _⟩ => ⟨S2x8192x2048, .f32⟩
  | .hbm, ⟨36, _⟩ => ⟨S2x8192x18432, .f32⟩
  | .hbm, ⟨37, _⟩ => ⟨S2x8192x18432, .bf16⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Proof.Softmax.lean ====
/- A softmax taken over the keys block by block, on the extended reals: a running maximum and running weighted sums,
   rescaled whenever the maximum moves, end in the same quotients as the softmax taken over all keys at once.
   The scores are real numbers; the weights (the values) are any extended reals. -/
module

public import Idealize.ShloMosaic.PureOps.Ideal
public import Idealize.ShloMosaic.PureOps.Ideal.Laws
public import Mathlib.Data.EReal.Inv
public import Mathlib.Analysis.SpecialFunctions.Exp

@[expose] public section

noncomputable section

open Idealize.ShloMosaic

namespace Cert.Softmax

/-- The running maximum after a block with the scores `s`. -/
def runMax {L : ℕ} (s : Fin L → EReal) (a : EReal) : EReal := max a (Finset.univ.fold max ⊥ s)

/-- The running weighted sum after a block with the scores `s` and the weights `w`. -/
def runSum {L : ℕ} (s w : Fin L → EReal) (a b : EReal) : EReal :=
  Ideal.exp (a - runMax s a) * b + ∑ k, w k * Ideal.exp (s k - runMax s a)

theorem exp_sub_coe (x y : ℝ) : Ideal.exp ((x : EReal) - (y : EReal)) = ((Real.exp (x - y) : ℝ) : EReal) := by
  rw [← EReal.coe_sub]; rfl

theorem exp_bot_sub (y : ℝ) : Ideal.exp ((⊥ : EReal) - (y : EReal)) = 0 := by
  rw [show (⊥ : EReal) - (y : EReal) = ⊥ from by rw [sub_eq_add_neg, EReal.bot_add]]; rfl

/-- A nonnegative real goes into a sum of extended reals. -/
theorem coe_mul_sum {ι : Type} (r : ℝ) (hr : 0 ≤ r) (A : Finset ι) (f : ι → EReal) :
    (r : EReal) * ∑ k ∈ A, f k = ∑ k ∈ A, (r : EReal) * f k := by
  classical
  induction A using Finset.induction_on with
  | empty => simp
  | insert a A ha ih =>
    rw [Finset.sum_insert ha, Finset.sum_insert ha,
      EReal.left_distrib_of_nonneg_of_ne_top (by exact_mod_cast hr) (EReal.coe_ne_top r), ih]

theorem coe_sum {ι : Type} (A : Finset ι) (f : ι → ℝ) : ((∑ k ∈ A, f k : ℝ) : EReal) = ∑ k ∈ A, (f k : EReal) := by
  classical
  induction A using Finset.induction_on with
  | empty => simp
  | insert a A ha ih => rw [Finset.sum_insert ha, Finset.sum_insert ha, EReal.coe_add, ih]

/-- The largest of finitely many, but at least one, real numbers is a real number. -/
theorem fold_max_real {ι : Type} [Fintype ι] [Nonempty ι] (s : ι → ℝ) :
    ∃ M : ℝ, Finset.univ.fold max (⊥ : EReal) (fun k => (s k : EReal)) = (M : EReal) := by
  have h1 : Finset.univ.fold max (⊥ : EReal) (fun k => (s k : EReal)) ≠ ⊤ :=
    ne_of_lt ((Finset.fold_max_lt _).2 ⟨bot_lt_top, fun k _ => EReal.coe_lt_top _⟩)
  have h2 : Finset.univ.fold max (⊥ : EReal) (fun k => (s k : EReal)) ≠ ⊥ :=
    ne_of_gt ((Finset.lt_fold_max _).2 (Or.inr ⟨Classical.arbitrary ι, Finset.mem_univ _, EReal.bot_lt_coe _⟩))
  exact ⟨_, (EReal.coe_toReal h1 h2).symm⟩

/-- What the running maximum `a` and a running sum `b` are after the first `n` keys: the maximum is some real number
    `M`, and the sum is that of the weights times `exp (score - M)`. -/
def After (S : ℕ → ℝ) (n : ℕ) (M : ℝ) (W : ℕ → EReal) (b : EReal) : Prop :=
  b = ∑ k ∈ Finset.range n, W k * ((Real.exp (S k - M) : ℝ) : EReal)

theorem runMax_start {L : ℕ} (hL : 0 < L) (s : Fin L → ℝ) : ∃ M : ℝ, runMax (fun k => (s k : EReal)) ⊥ = (M : EReal) := by
  haveI : Nonempty (Fin L) := ⟨⟨0, hL⟩⟩
  obtain ⟨M, hM⟩ := fold_max_real s
  exact ⟨M, by unfold runMax; rw [hM]; exact max_eq_right bot_le⟩

theorem runMax_real {L : ℕ} (hL : 0 < L) (s : Fin L → ℝ) (a : ℝ) : ∃ M : ℝ, runMax (fun k => (s k : EReal)) (a : EReal) = (M : EReal) := by
  haveI : Nonempty (Fin L) := ⟨⟨0, hL⟩⟩
  obtain ⟨M, hM⟩ := fold_max_real s
  exact ⟨max a M, by unfold runMax; rw [hM]; exact (EReal.coe_strictMono.monotone.map_max).symm⟩

/-- The first block, from the maximum `⊥` and the sum `0`. -/
theorem after_start {L : ℕ} (S : ℕ → ℝ) (W : ℕ → EReal) (M : ℝ)
    (hM : runMax (fun k : Fin L => (S k : EReal)) ⊥ = (M : EReal)) :
    After S L M W (runSum (fun k : Fin L => (S k : EReal)) (fun k : Fin L => W k) ⊥ 0) := by
  unfold After runSum
  rw [hM, mul_zero, zero_add, Finset.sum_range]
  exact Finset.sum_congr rfl fun k _ => by rw [exp_sub_coe]

/-- A further block. -/
theorem after_step {L n : ℕ} (S : ℕ → ℝ) (W : ℕ → EReal) (M M' : ℝ) (b : EReal)
    (hM : runMax (fun k : Fin L => (S (n + k) : EReal)) (M : EReal) = (M' : EReal)) (h : After S n M W b) :
    After S (n + L) M' W (runSum (fun k : Fin L => (S (n + k) : EReal)) (fun k : Fin L => W (n + k)) (M : EReal) b) := by
  unfold After at h ⊢
  unfold runSum
  rw [hM, Finset.sum_range_add, h, exp_sub_coe, coe_mul_sum _ (Real.exp_pos _).le, Finset.sum_range (n := L)]
  congr 1
  · refine Finset.sum_congr rfl fun k _ => ?_
    rw [mul_left_comm, ← EReal.coe_mul, ← Real.exp_add]
    congr 3; ring

/-- The quotient of two running sums, of the weights `W` and of the weights `1`, is the sum of `W` weighted by the
    softmax of the scores, whatever shift `M'` the softmax is taken with. -/
theorem quotient {n : ℕ} (hn : 0 < n) (S : ℕ → ℝ) (W : ℕ → EReal) (M M' : ℝ) (b l : EReal)
    (hb : After S n M W b) (hl : After S n M (fun _ => 1) l) :
    Ideal.div b l = ∑ k : Fin n, Ideal.div (Ideal.exp ((S k : EReal) - (M' : EReal)))
        (∑ i : Fin n, Ideal.exp ((S i : EReal) - (M' : EReal))) * W k := by
  unfold After at hb hl
  have key : ∀ N : ℝ, ∑ i : Fin n, Ideal.exp ((S i : EReal) - (N : EReal)) = ((∑ i : Fin n, Real.exp (S i - N) : ℝ) : EReal) := fun N => by
    rw [coe_sum]; exact Finset.sum_congr rfl fun k _ => exp_sub_coe _ _
  have pos : ∀ N : ℝ, 0 < ∑ i : Fin n, Real.exp (S i - N) := fun N =>
    Finset.sum_pos (fun i _ => Real.exp_pos _) ⟨⟨0, hn⟩, Finset.mem_univ _⟩
  have hl' : l = ((∑ i : Fin n, Real.exp (S i - M) : ℝ) : EReal) := by
    rw [hl, Finset.sum_range, coe_sum]; exact Finset.sum_congr rfl fun k _ => one_mul _
  have dv : ∀ (x : EReal) (y : ℝ), 0 < y → Ideal.div x (y : EReal) = ((y⁻¹ : ℝ) : EReal) * x := fun x y hy => by
    unfold Ideal.div
    rw [if_neg (by exact_mod_cast hy.ne'), EReal.coe_inv, mul_comm]
  rw [key, hl', dv _ _ (pos M), hb, coe_mul_sum _ (inv_nonneg.2 (pos M).le), Finset.sum_range]
  refine Finset.sum_congr rfl fun k _ => ?_
  rw [dv _ _ (pos M'), exp_sub_coe, mul_left_comm, ← EReal.coe_mul, ← EReal.coe_mul, mul_comm (W k)]
  congr 2
  have e : ∀ i : Fin n, Real.exp (S i - M') = Real.exp (M - M') * Real.exp (S i - M) := fun i => by
    rw [← Real.exp_add]; congr 1; ring
  simp only [e]
  rw [← Finset.mul_sum, mul_inv, mul_mul_mul_comm, inv_mul_cancel₀ (Real.exp_pos _).ne', one_mul]

end Cert.Softmax

end
-- ==== Proof.KernelBlock.lean ====
/- What one grid point leaves in the two scratch buffers (the running maximum and the running sums), read at an index:
   a point of the first kind starts them from the context keys, a later point carries them over one block of latent keys,
   and the last point also writes the quotients. -/
module

public import proofs.«01_k».proof.Proof.Gen.KernelIdeal.Frame
public import proofs.«01_k».proof.Proof.Softmax
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Softmax

/-- The pattern of minus infinity denotes the least extended real. -/
theorem ofBits_negInf : Ideal.ofBits .f32 0xFF800000#32 = (⊥ : EReal) := by
  simp [Ideal.ofBits, Ideal.ieee]

/-- Two stores into the column halves of a buffer, read in the right half. -/
theorem canon_hi {R : ℕ} {e : EltTy} (inb) (P : (⟨2, ![R, 512]⟩ : Shape).Idx → Elt Ideal e) (L) (r : Fin R) (b : Fin 512) :
    View.canon (Val := Elt Ideal) (s := ⟨2, ![R, 1024]⟩) (e := e) (⟨Rect.unit ![0, 512] ![R, 512] inb, P⟩ :: L) (ix2 r ⟨512 + b.val, by omega⟩) = P (ix2 r b) := by
  rw [← View.canon_cons_emb (Rect.unit (s := ⟨2, ![R, 1024]⟩) ![0, 512] ![R, 512] inb) P L (ix2 r b)]
  congr 1
  funext a; apply Fin.ext
  match a with
  | 0 => simp
  | 1 => simp

/-- Two stores into the column halves of a buffer, read in the left half. -/
theorem canon_lo {R : ℕ} {e : EltTy} (inb inb') (P P' : (⟨2, ![R, 512]⟩ : Shape).Idx → Elt Ideal e) (L) (r : Fin R) (b : Fin 512) :
    View.canon (Val := Elt Ideal) (s := ⟨2, ![R, 1024]⟩) (e := e) (⟨Rect.unit ![0, 512] ![R, 512] inb, P⟩ :: ⟨Rect.unit ![0, 0] ![R, 512] inb', P'⟩ :: L)
      (ix2 r ⟨b.val, by omega⟩) = P' (ix2 r b) := by
  rw [View.canon_cons_of_not_mem, ← View.canon_cons_emb (Rect.unit (s := ⟨2, ![R, 1024]⟩) ![0, 0] ![R, 512] inb') P' L (ix2 r b)]
  · congr 1
    funext a; apply Fin.ext
    match a with
    | 0 => simp
    | 1 => simp
  · rw [Rect.mem_set_unit]
    intro h
    have := (h 1).1
    simp at this
    omega

/-- A load of the whole sums' buffer after stores. -/
theorem readCov_all {v : View sig .tc .vmem S256x1024 .f32} (L) (inb) :
    v.readCov (Val := Elt Ideal) L (Rect.unit (s := S256x1024) ![0, 0] ![256, 1024] inb).toLoadRect = View.canon L := by
  rw [View.readCov_eq_canon']
  funext y
  refine congrArg (View.canon L) ?_
  funext a; apply Fin.ext
  match a with
  | 0 => simp
  | 1 => simp

variable (c : Dev nD) (i : grid0.Coords) (arg4 : Memref sig .tc .vmem S1x1024x256 .bf16) (harg4 : arg4.IsWhole) (arg5 : Memref sig .tc .vmem S1x256x256 .bf16) (harg5 : arg5.IsWhole) (arg6 : Memref sig .tc .vmem S1x256x256 .bf16) (harg6 : arg6.IsWhole) (arg7 : Memref sig .tc .vmem S1x1024x256 .bf16) (harg7 : arg7.IsWhole) (arg8 : Memref sig .tc .vmem S1x256x1024 .bf16) (harg8 : arg8.IsWhole) (arg9 : Memref sig .tc .vmem S1x1024x128 .bf16) (harg9 : arg9.IsWhole) (arg10 : Memref sig .tc .vmem S1x1024 .f32) (harg10 : arg10.IsWhole) (arg11 : Memref sig .tc .vmem S256x1024 .f32) (harg11 : arg11.IsWhole)
  (x0 : FVec Ideal S1x1024x256 .bf16) (x1 : FVec Ideal S1x256x256 .bf16) (x2 : FVec Ideal S1x256x256 .bf16)
  (x3 : FVec Ideal S1x1024x256 .bf16) (x4 : FVec Ideal S1x256x1024 .bf16) (xs0 : FVec Ideal S1x1024 .f32) (xs1 : FVec Ideal S256x1024 .f32)

/-- Query column `j`'s score against context key `k`. -/
abbrev scoreC (j : Fin 1024) (k : Fin 256) : EReal := ∑ d : Fin 256, x1 (ix3 0 k d) * x0 (ix3 0 j d)

/-- Query column `j`'s score against the block's latent key `k`. -/
abbrev scoreL (j k : Fin 1024) : EReal := ∑ d : Fin 256, x3 (ix3 0 k d) * x0 (ix3 0 j d)

/-- A middle point: the running maximum. -/
theorem max_B (hc0 : ¬cond0_0 i) (hc1 : cond0_1 i) (hc2 : ¬cond0_2 i) (j : Fin 1024) :
    sout0_B_0 (F := Ideal) c i arg4 harg4 arg5 harg5 arg6 harg6 arg7 harg7 arg8 harg8 arg9 harg9 arg10 harg10 arg11 harg11 hc0 hc1 hc2 x0 x1 x2 x3 x4 xs0 xs1 (ix2 0 j) = runMax (scoreL x0 x3 j) (xs0 (ix2 0 j)) := by
  rcases Nat.lt_or_ge j.val 512 with hj | hj
  · obtain ⟨b, rfl⟩ : ∃ b : Fin 512, j = ⟨b.val, Nat.lt_of_lt_of_le b.isLt (by decide)⟩ := ⟨⟨j.val, hj⟩, rfl⟩
    frame_out
    refine (canon_lo _ _ _ _ _ _ b).trans ?_
    open_payloads
    pointwise [runMax, runSum, scoreC, scoreL, ofBits_negInf]
  · obtain ⟨b, rfl⟩ : ∃ b : Fin 512, j = ⟨512 + b.val, Nat.add_lt_add_left b.isLt 512⟩ := ⟨⟨j.val - 512, by omega⟩, Fin.ext (by simp; omega)⟩
    frame_out
    refine (canon_hi _ _ _ _ b).trans ?_
    open_payloads
    pointwise [runMax, runSum, scoreC, scoreL, ofBits_negInf]

/-- A middle point: the running sums. -/
theorem sum_B (hc0 : ¬cond0_0 i) (hc1 : cond0_1 i) (hc2 : ¬cond0_2 i) (r : Fin 256) (j : Fin 1024) :
    sout0_B_1 (F := Ideal) c i arg4 harg4 arg5 harg5 arg6 harg6 arg7 harg7 arg8 harg8 arg9 harg9 arg10 harg10 arg11 harg11 hc0 hc1 hc2 x0 x1 x2 x3 x4 xs0 xs1 (ix2 r j) = runSum (scoreL x0 x3 j) (fun k : Fin 1024 => x4 (ix3 0 r k)) (xs0 (ix2 0 j)) (xs1 (ix2 r j)) := by
  rcases Nat.lt_or_ge j.val 512 with hj | hj
  · obtain ⟨b, rfl⟩ : ∃ b : Fin 512, j = ⟨b.val, Nat.lt_of_lt_of_le b.isLt (by decide)⟩ := ⟨⟨j.val, hj⟩, rfl⟩
    frame_out
    refine (canon_lo _ _ _ _ _ _ b).trans ?_
    open_payloads
    pointwise [runMax, runSum, scoreC, scoreL, ofBits_negInf]
  · obtain ⟨b, rfl⟩ : ∃ b : Fin 512, j = ⟨512 + b.val, Nat.add_lt_add_left b.isLt 512⟩ := ⟨⟨j.val - 512, by omega⟩, Fin.ext (by simp; omega)⟩
    frame_out
    refine (canon_hi _ _ _ _ b).trans ?_
    open_payloads
    pointwise [runMax, runSum, scoreC, scoreL, ofBits_negInf]

/-- The last point: the running sums. -/
theorem sum_C (hc0 : ¬cond0_0 i) (hc1 : cond0_1 i) (hc2 : cond0_2 i) (r : Fin 256) (j : Fin 1024) :
    sout0_C_1 (F := Ideal) c i arg4 harg4 arg5 harg5 arg6 harg6 arg7 harg7 arg8 harg8 arg9 harg9 arg10 harg10 arg11 harg11 hc0 hc1 hc2 x0 x1 x2 x3 x4 xs0 xs1 (ix2 r j) = runSum (scoreL x0 x3 j) (fun k : Fin 1024 => x4 (ix3 0 r k)) (xs0 (ix2 0 j)) (xs1 (ix2 r j)) := by
  rcases Nat.lt_or_ge j.val 512 with hj | hj
  · obtain ⟨b, rfl⟩ : ∃ b : Fin 512, j = ⟨b.val, Nat.lt_of_lt_of_le b.isLt (by decide)⟩ := ⟨⟨j.val, hj⟩, rfl⟩
    frame_out
    refine (canon_lo _ _ _ _ _ _ b).trans ?_
    open_payloads
    pointwise [runMax, runSum, scoreC, scoreL, ofBits_negInf]
  · obtain ⟨b, rfl⟩ : ∃ b : Fin 512, j = ⟨512 + b.val, Nat.add_lt_add_left b.isLt 512⟩ := ⟨⟨j.val - 512, by omega⟩, Fin.ext (by simp; omega)⟩
    frame_out
    refine (canon_hi _ _ _ _ b).trans ?_
    open_payloads
    pointwise [runMax, runSum, scoreC, scoreL, ofBits_negInf]

/-- The first point: the running maximum. -/
theorem max_A (hc0 : cond0_0 i) (hc1 : ¬cond0_1 i) (hc2 : ¬cond0_2 i) (j : Fin 1024) :
    sout0_A_0 (F := Ideal) c i arg4 harg4 arg5 harg5 arg6 harg6 arg7 harg7 arg8 harg8 arg9 harg9 arg10 harg10 arg11 harg11 hc0 hc1 hc2 x0 x1 x2 x3 x4 (ix2 0 j) = runMax (scoreC x0 x1 j) ⊥ := by
  rcases Nat.lt_or_ge j.val 512 with hj | hj
  · obtain ⟨b, rfl⟩ : ∃ b : Fin 512, j = ⟨b.val, Nat.lt_of_lt_of_le b.isLt (by decide)⟩ := ⟨⟨j.val, hj⟩, rfl⟩
    frame_out
    refine (canon_lo _ _ _ _ _ _ b).trans ?_
    simp (discharger := decide) only [↓View.readCov_skip, ↓View.readCov_fill]
    open_payloads
    pointwise [runMax, runSum, scoreC, scoreL, ofBits_negInf]
  · obtain ⟨b, rfl⟩ : ∃ b : Fin 512, j = ⟨512 + b.val, Nat.add_lt_add_left b.isLt 512⟩ := ⟨⟨j.val - 512, by omega⟩, Fin.ext (by simp; omega)⟩
    frame_out
    refine (canon_hi _ _ _ _ b).trans ?_
    simp (discharger := decide) only [↓View.readCov_skip, ↓View.readCov_fill]
    open_payloads
    pointwise [runMax, runSum, scoreC, scoreL, ofBits_negInf]

/-- The first point: the running sums. -/
theorem sum_A (hc0 : cond0_0 i) (hc1 : ¬cond0_1 i) (hc2 : ¬cond0_2 i) (r : Fin 256) (j : Fin 1024) :
    sout0_A_1 (F := Ideal) c i arg4 harg4 arg5 harg5 arg6 harg6 arg7 harg7 arg8 harg8 arg9 harg9 arg10 harg10 arg11 harg11 hc0 hc1 hc2 x0 x1 x2 x3 x4 (ix2 r j) = runSum (scoreC x0 x1 j) (fun k : Fin 256 => x2 (ix3 0 r k)) ⊥ 0 := by
  rcases Nat.lt_or_ge j.val 512 with hj | hj
  · obtain ⟨b, rfl⟩ : ∃ b : Fin 512, j = ⟨b.val, Nat.lt_of_lt_of_le b.isLt (by decide)⟩ := ⟨⟨j.val, hj⟩, rfl⟩
    frame_out
    refine (canon_lo _ _ _ _ _ _ b).trans ?_
    simp (discharger := decide) only [↓View.readCov_skip, ↓View.readCov_fill]
    open_payloads
    pointwise [runMax, runSum, scoreC, scoreL, ofBits_negInf]
  · obtain ⟨b, rfl⟩ : ∃ b : Fin 512, j = ⟨512 + b.val, Nat.add_lt_add_left b.isLt 512⟩ := ⟨⟨j.val - 512, by omega⟩, Fin.ext (by simp; omega)⟩
    frame_out
    refine (canon_hi _ _ _ _ b).trans ?_
    simp (discharger := decide) only [↓View.readCov_skip, ↓View.readCov_fill]
    open_payloads
    pointwise [runMax, runSum, scoreC, scoreL, ofBits_negInf]

/-- The last point: what it writes is the quotient of row `r` of the sums by row 128. -/
theorem out_C (hc0 : ¬cond0_0 i) (hc1 : cond0_1 i) (hc2 : cond0_2 i) (j : Fin 1024) (r : Fin 128) :
    out0_C_5 (F := Ideal) c i arg4 harg4 arg5 harg5 arg6 harg6 arg7 harg7 arg8 harg8 arg9 harg9 arg10 harg10 arg11 harg11 hc0 hc1 hc2 x0 x1 x2 x3 x4 xs0 xs1 (ix3 0 j r)
      = Ideal.div (runSum (scoreL x0 x3 j) (fun k : Fin 1024 => x4 (ix3 0 ⟨r, by omega⟩ k)) (xs0 (ix2 0 j)) (xs1 (ix2 ⟨r, by omega⟩ j)))
          (runSum (scoreL x0 x3 j) (fun k : Fin 1024 => x4 (ix3 0 128 k)) (xs0 (ix2 0 j)) (xs1 (ix2 128 j))) := by
  have e : out0_C_5 (F := Ideal) c i arg4 harg4 arg5 harg5 arg6 harg6 arg7 harg7 arg8 harg8 arg9 harg9 arg10 harg10 arg11 harg11 hc0 hc1 hc2 x0 x1 x2 x3 x4 xs0 xs1 = k0_pay9 (sout0_C_1 (F := Ideal) c i arg4 harg4 arg5 harg5 arg6 harg6 arg7 harg7 arg8 harg8 arg9 harg9 arg10 harg10 arg11 harg11 hc0 hc1 hc2 x0 x1 x2 x3 x4 xs0 xs1) := by
    frame_out
    rw [readCov_all]
  rw [e]
  pointwise [k0_pay9]
  rw [sum_C, sum_C]

end Cert.KernelIdeal.Value

end
-- ==== Proof.RefOps.lean ====
module

public import proofs.«01_k».proof.Proof.Gen.ReferenceIdeal.Run
public import proofs.«01_k».proof.Proof.KernelBlock
public import Idealize.ShloMosaic.Lib.Pipeline.ReadBack
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ReferenceIdeal.Value

open Cert.ReferenceIdeal Cert.ReferenceIdeal.Gen

open Cert.KernelIdeal.Value (ofBits_negInf)

/-- The scores: queries against the context's keys, then the latent's, scaled. -/
def scores (q : FVec Ideal S2x8192x8x192 .f32) (kc : FVec Ideal S2x256x8x192 .f32) (kl : FVec Ideal S2x8192x8x192 .f32) : FVec Ideal S2x8x8192x8448 .f32 :=
  mulf (Host.dotGeneral dot_S2x8192x8x192_S2x8448x8x192_S2x8x8192x8448_3_3_1_1_02_02 none q (concatenate S2x8448x8x192 1 [⟨S2x256x8x192, kc⟩, ⟨S2x8192x8x192, kl⟩] concatenates_S2x256x8x192_S2x8192x8x192_S2x8448x8x192_d1)) (broadcastInDim S2x8x8192x8448 ![] bcast_S_S2x8x8192x8448 (constant S_ .f32 0x3D93CD3A#32))

/-- Each query's largest score. -/
def largest (s : FVec Ideal S2x8x8192x8448 .f32) : FVec Ideal S2x8x8192 .f32 :=
  maximumf (broadcastInDim S2x8x8192 ![] bcast_S_S2x8x8192 (constant S_ .f32 0xFF800000#32)) (Host.reduce FloatOps.maximumf s (constant S_ .f32 0xFF800000#32) reducesTo_S2x8x8192x8448_S2x8x8192_d3 h_S_)

/-- The scores' exponentials, each query's largest score taken off. -/
def exps (s : FVec Ideal S2x8x8192x8448 .f32) : FVec Ideal S2x8x8192x8448 .f32 :=
  Host.exp (subf s (broadcastInDim S2x8x8192x8448 ![0, 1, 2, 3] bcast_S2x8x8192x1_S2x8x8192x8448_0_1_2_3 (broadcastInDim S2x8x8192x1 ![0, 1, 2] bcast_S2x8x8192_S2x8x8192x1_0_1_2 (largest s))))

/-- The softmax over the keys. -/
def probs (e : FVec Ideal S2x8x8192x8448 .f32) : FVec Ideal S2x8x8192x8448 .f32 :=
  Host.divf e (broadcastInDim S2x8x8192x8448 ![0, 1, 2, 3] bcast_S2x8x8192x1_S2x8x8192x8448_0_1_2_3 (broadcastInDim S2x8x8192x1 ![0, 1, 2] bcast_S2x8x8192_S2x8x8192x1_0_1_2 (Host.reduceAdd e (constant S_ .f32 0x00000000#32) reducesTo_S2x8x8192x8448_S2x8x8192_d3 h_S_)))

/-- The values weighted by the softmax, heads side by side. -/
def mixed (p : FVec Ideal S2x8x8192x8448 .f32) (vc : FVec Ideal S2x256x8x128 .f32) (vl : FVec Ideal S2x8192x8x128 .f32) : FVec Ideal S2x8192x1024 .bf16 :=
  truncf .bf16 (shapeCast _ (transpose S2x8192x8x128 [0, 3, 1, 2] (Host.dotGeneral dot_S2x8448x8x128_S2x8x8192x8448_S2x8x128x8192_1_3_3_2_02_01 none (concatenate S2x8448x8x128 1 [⟨S2x256x8x128, vc⟩, ⟨S2x8192x8x128, vl⟩] concatenates_S2x256x8x128_S2x8192x8x128_S2x8448x8x128_d1) p)  transposes_S2x8x128x8192_S2x8192x8x128_0_3_1_2) shapeCasts_S2x8192x8x128_S2x8192x1024) bitsLt_bf16_f32

/-- A score, its key from the context or the latent. -/
theorem scores_at (q : FVec Ideal S2x8192x8x192 .f32) (kc : FVec Ideal S2x256x8x192 .f32) (kl : FVec Ideal S2x8192x8x192 .f32)
    (b : Fin 2) (h : Fin 8) (n : Fin 8192) (k : Fin 8448) :
    scores q kc kl (ix4 b h n k) = if hk : k.val < 256
      then (∑ d : Fin 192, (show EReal from q (ix4 b n h d)) * (show EReal from kc (ix4 b ⟨k.val, hk⟩ h d))) * Ideal.ofBits FTy.f32 0x3D93CD3A#32
      else (∑ d : Fin 192, (show EReal from q (ix4 b n h d)) * (show EReal from kl (ix4 b ⟨k.val - 256, by omega⟩ h d))) * Ideal.ofBits FTy.f32 0x3D93CD3A#32 := by
  unfold scores
  pointwise
  split
  · rename_i hk
    simp only [dif_pos hk]
  · rename_i hk
    simp only [dif_neg hk]

/-- The maximum of real numbers along an axis that is not empty, from `⊥`, is a real number. -/
theorem reduce_max_real {s t u : Shape} {a : Fin s.rank} (hr : s.Reduces [a] t) (h' : s.ReducesTo [a] t) (hu : 0 < u.numel) [Nonempty (Fin (s.size a))]
    (x : FVec Ideal s .f32) (init : FVec Ideal u .f32) (hi : (init (Shape.Idx.first hu) : EReal) = ⊥) (S : s.Idx → ℝ) (hs : ∀ i, (x i : EReal) = (S i : EReal)) (j : t.Idx) :
    ∃ M : ℝ, ((Host.reduce FloatOps.maximumf x init h' hu : FVec Ideal t .f32) j : EReal) = (M : EReal) := by
  obtain ⟨M, hM⟩ := Cert.Softmax.fold_max_real (fun k : Fin (s.size a) => S (hr.lift j k))
  refine ⟨M, ?_⟩
  refine (Host.reduce_eq_fold_single (FloatOps.maximumf : Ideal FTy.f32 → Ideal FTy.f32 → Ideal FTy.f32) x init h' hr hu j).trans ?_
  rw [hi, show x ∘ hr.lift j = fun k => (S (hr.lift j k) : EReal) from funext fun k => hs _]
  exact hM

theorem reduces_keys : S2x8x8192x8448.Reduces [3] S2x8x8192 := by decide

/-- Over real scores each query's largest is a real number. -/
theorem largest_real (s : FVec Ideal S2x8x8192x8448 .f32) (S : S2x8x8192x8448.Idx → ℝ) (hs : ∀ i, (s i : EReal) = (S i : EReal))
    (j : S2x8x8192.Idx) : ∃ M : ℝ, (largest s j : EReal) = (M : EReal) := by
  haveI : Nonempty (Fin (S2x8x8192x8448.size 3)) := ⟨(⟨0, by norm_num⟩ : Fin 8448)⟩
  obtain ⟨M, hM⟩ := reduce_max_real reduces_keys reducesTo_S2x8x8192x8448_S2x8x8192_d3 h_S_ s (constant S_ .f32 0xFF800000#32) ofBits_negInf S hs j
  refine ⟨M, ?_⟩
  unfold largest
  rw [maximumf_apply, hM]
  have hb : ((broadcastInDim S2x8x8192 ![] bcast_S_S2x8x8192 (constant S_ .f32 0xFF800000#32) : FVec Ideal S2x8x8192 .f32) j : EReal) = ⊥ := ofBits_negInf
  rw [hb]
  exact max_eq_right bot_le

theorem exps_at (s : FVec Ideal S2x8x8192x8448 .f32) (b : Fin 2) (h : Fin 8) (n : Fin 8192) (k : Fin 8448) :
    exps s (ix4 b h n k) = Ideal.exp ((show EReal from s (ix4 b h n k)) - (show EReal from largest s (ix3 b h n))) := by
  unfold exps
  pointwise

theorem probs_at (e : FVec Ideal S2x8x8192x8448 .f32) (b : Fin 2) (h : Fin 8) (n : Fin 8192) (k : Fin 8448) :
    probs e (ix4 b h n k) = Ideal.div (e (ix4 b h n k)) (0 + ∑ i : Fin 8448, (show EReal from e (ix4 b h n i))) := by
  unfold probs
  pointwise

theorem mixed_at (p : FVec Ideal S2x8x8192x8448 .f32) (vc : FVec Ideal S2x256x8x128 .f32) (vl : FVec Ideal S2x8192x8x128 .f32)
    (b : Fin 2) (n : Fin 8192) (h : Fin 8) (r : Fin 128) :
    mixed p vc vl (ix3 b n ⟨h.val * 128 + r.val, by omega⟩) = ∑ k : Fin 8448, (if hk : k.val < 256 then (show EReal from vc (ix4 b ⟨k.val, hk⟩ h r)) else (show EReal from vl (ix4 b ⟨k.val - 256, by omega⟩ h r))) * (show EReal from p (ix4 b h n k)) := by
  unfold mixed
  pointwise

end Cert.ReferenceIdeal.Value

end
-- ==== Proof.RefRun.lean ====
module

public import proofs.«01_k».proof.Proof.Gen.ReferenceIdeal
public import proofs.«01_k».proof.Proof.Gen.ReferenceIdeal.Run
public import proofs.«01_k».proof.Proof.RefOps
public import Idealize.ShloMosaic.Adequacy
public import Idealize.ShloMosaic.Init
public import Idealize.ShloMosaic.Lib.Claim

@[expose] public section

noncomputable section

namespace Cert.Proof

open Idealize.ShloMosaic Idealize.ShloMosaic.TcCoe Idealize.SL.Sem

/-- The reference's result over given arguments. -/
def result (q : FVec Ideal Cert.ReferenceIdeal.S2x8192x8x192 .f32) (kc : FVec Ideal Cert.ReferenceIdeal.S2x256x8x192 .f32) (vc : FVec Ideal Cert.ReferenceIdeal.S2x256x8x128 .f32)
    (kl : FVec Ideal Cert.ReferenceIdeal.S2x8192x8x192 .f32) (vl : FVec Ideal Cert.ReferenceIdeal.S2x8192x8x128 .f32) : FVec Ideal Cert.ReferenceIdeal.S2x8192x1024 .bf16 :=
  Cert.ReferenceIdeal.Value.mixed (Cert.ReferenceIdeal.Value.probs (Cert.ReferenceIdeal.Value.exps (Cert.ReferenceIdeal.Value.scores q kc kl))) vc vl

/-- The reference runs to its result. -/
theorem run_reference (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v19) = result (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))
      ∧ r.2.mem ((c.tc : Thread Cert.ReferenceIdeal.nD Cert.ReferenceIdeal.τ).loc Cert.ReferenceIdeal.main_arg0) = (m ((c.tc : Thread Cert.ReferenceIdeal.nD Cert.ReferenceIdeal.τ).loc Cert.ReferenceIdeal.main_arg0))
      ∧ r.2.mem ((c.tc : Thread Cert.ReferenceIdeal.nD Cert.ReferenceIdeal.τ).loc Cert.ReferenceIdeal.main_arg1) = (m ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_arg2) = (m ((c.tc : Thread Cert.ReferenceIdeal.nD Cert.ReferenceIdeal.τ).loc Cert.ReferenceIdeal.main_arg2))
      ∧ r.2.mem ((c.tc : Thread Cert.ReferenceIdeal.nD Cert.ReferenceIdeal.τ).loc Cert.ReferenceIdeal.main_arg3) = (m ((c.tc : Thread Cert.ReferenceIdeal.nD Cert.ReferenceIdeal.τ).loc Cert.ReferenceIdeal.main_arg3))
      ∧ r.2.mem ((c.tc : Thread Cert.ReferenceIdeal.nD Cert.ReferenceIdeal.τ).loc Cert.ReferenceIdeal.main_arg4) = (m ((c.tc : Thread Cert.ReferenceIdeal.nD Cert.ReferenceIdeal.τ).loc Cert.ReferenceIdeal.main_arg4))) := by
  unfold result Cert.ReferenceIdeal.Value.mixed Cert.ReferenceIdeal.Value.probs Cert.ReferenceIdeal.Value.exps Cert.ReferenceIdeal.Value.largest Cert.ReferenceIdeal.Value.scores
  exact Cert.ReferenceIdeal.Value.run (F := Ideal) m g

end Cert.Proof

end
-- ==== Proof.Steps.lean ====
module

public import proofs.«01_k».proof.Proof.KernelBlock

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Softmax

variable (m : (ℓ : Loc nD τ sig) → Buf (Elt Ideal) ℓ) (c : Dev nD)

/-- The running maximum after position `n`. -/
@[irreducible] def top (n : ℕ) (hn : n < cfg0.N) : FVec Ideal S1x1024 .f32 := (outsAt0 m c n hn).2.1
/-- The running sums after position `n`. -/
@[irreducible] def acc (n : ℕ) (hn : n < cfg0.N) : FVec Ideal S256x1024 .f32 := (outsAt0 m c n hn).2.2

theorem top_A (t : Fin cfg0.N) (h0 : t.val % 9 = 0) (j : Fin 1024) :
    top m c t.val t.isLt (ix2 0 j) = runMax (scoreC (iblk m c 0 t) (iblk m c 1 t) j) ⊥ := by
  unfold top
  rw [outsAt0_A m c t h0 (by omega) (by omega)]
  dsimp only
  exact max_A c _ _ _ _ _ _ _ _ _ _ _ _ _ _ _ _ _ (iblk m c 0 t) (iblk m c 1 t) (iblk m c 2 t) (iblk m c 3 t) (iblk m c 4 t) _ _ _ j
theorem acc_A (t : Fin cfg0.N) (h0 : t.val % 9 = 0) (r : Fin 256) (j : Fin 1024) :
    acc m c t.val t.isLt (ix2 r j) = runSum (scoreC (iblk m c 0 t) (iblk m c 1 t) j) (fun k : Fin 256 => (iblk m c 2 t : FVec Ideal S1x256x256 .bf16) (ix3 0 r k)) ⊥ 0 := by
  unfold acc
  rw [outsAt0_A m c t h0 (by omega) (by omega)]
  dsimp only
  exact sum_A c _ _ _ _ _ _ _ _ _ _ _ _ _ _ _ _ _ (iblk m c 0 t) (iblk m c 1 t) (iblk m c 2 t) (iblk m c 3 t) (iblk m c 4 t) _ _ _ r j
theorem top_B (t : Fin cfg0.N) (h1 : 1 ≤ t.val % 9) (h2 : t.val % 9 ≠ 8) (p : ℕ) (hp : p < cfg0.N) (e : t.val - 1 = p) (j : Fin 1024) :
    top m c t.val t.isLt (ix2 0 j) = runMax (scoreL (iblk m c 0 t) (iblk m c 3 t) j) (top m c p hp (ix2 0 j)) := by
  subst e
  unfold top
  rw [outsAt0_B m c t (by omega) h1 h2]
  dsimp only
  exact max_B c _ _ _ _ _ _ _ _ _ _ _ _ _ _ _ _ _ (iblk m c 0 t) (iblk m c 1 t) (iblk m c 2 t) (iblk m c 3 t) (iblk m c 4 t) _ _ _ _ _ j
theorem acc_B (t : Fin cfg0.N) (h1 : 1 ≤ t.val % 9) (h2 : t.val % 9 ≠ 8) (p : ℕ) (hp : p < cfg0.N) (e : t.val - 1 = p) (r : Fin 256) (j : Fin 1024) :
    acc m c t.val t.isLt (ix2 r j) = runSum (scoreL (iblk m c 0 t) (iblk m c 3 t) j) (fun k : Fin 1024 => (iblk m c 4 t : FVec Ideal S1x256x1024 .bf16) (ix3 0 r k))
      (top m c p hp (ix2 0 j)) (acc m c p hp (ix2 r j)) := by
  subst e
  unfold acc top
  rw [outsAt0_B m c t (by omega) h1 h2]
  dsimp only
  exact sum_B c _ _ _ _ _ _ _ _ _ _ _ _ _ _ _ _ _ (iblk m c 0 t) (iblk m c 1 t) (iblk m c 2 t) (iblk m c 3 t) (iblk m c 4 t) _ _ _ _ _ r j
theorem outs_C (t : Fin cfg0.N) (h2 : t.val % 9 = 8) (p : ℕ) (hp : p < cfg0.N) (e : t.val - 1 = p) (j : Fin 1024) (r : Fin 128) :
    ((outsAt0 m c t.val t.isLt).1 : FVec Ideal S1x1024x128 .bf16) (ix3 0 j r)
      = Ideal.div (runSum (scoreL (iblk m c 0 t) (iblk m c 3 t) j) (fun k : Fin 1024 => (iblk m c 4 t : FVec Ideal S1x256x1024 .bf16) (ix3 0 ⟨r.val, by omega⟩ k))
          (top m c p hp (ix2 0 j)) (acc m c p hp (ix2 ⟨r.val, by omega⟩ j)))
        (runSum (scoreL (iblk m c 0 t) (iblk m c 3 t) j) (fun k : Fin 1024 => (iblk m c 4 t : FVec Ideal S1x256x1024 .bf16) (ix3 0 128 k))
          (top m c p hp (ix2 0 j)) (acc m c p hp (ix2 128 j))) := by
  subst e
  unfold acc top
  rw [outsAt0_C m c t (by omega) (by omega) h2]
  dsimp only
  exact out_C c _ _ _ _ _ _ _ _ _ _ _ _ _ _ _ _ _ (iblk m c 0 t) (iblk m c 1 t) (iblk m c 2 t) (iblk m c 3 t) (iblk m c 4 t) _ _ _ _ _ j r

end Cert.KernelIdeal.Value

end
-- ==== Proof.ArgsQ.lean ====
module

public import proofs.«01_k».proof.Proof.Gen.KernelIdeal.Frame
public import Idealize.ShloMosaic.Lib.Pipeline.ValueKit
public import Idealize.ShloMosaic.Lib.Claim
public import Idealize.ShloMosaic.Lib.StableHlo.ReadAt
public import Idealize.ShloMosaic.Lib.Pointwise
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

theorem sitofp_zero : (FloatOps.sitofp (F := Ideal) FTy.f32 0#32 : EReal) = 0 := by
  show ((((0#32 : BitVec 32).toInt : ℝ)) : EReal) = 0
  simp

/-- A row padded from 192 to 256 lanes: the row below 192, the padding above. -/
theorem pad_latent (x : FVec Ideal S2x8192x8x192 .f32) (v : FVec Ideal S_ .f32)
    (hp : S2x8192x8x192.Pads ![0, 0, 0, 0] ![0, 0, 0, 64] ![0, 0, 0, 0] S2x8192x8x256) (hu : 0 < S_.numel)
    (b : Fin 2) (n : Fin 8192) (h : Fin 8) (d : Fin 256) :
    pad S2x8192x8x256 ![0, 0, 0, 0] ![0, 0, 0, 64] ![0, 0, 0, 0] x v hp hu (ix4 b n h d)
      = if hd : d.val < 192 then x (ix4 b n h ⟨d.val, hd⟩) else v (Shape.Idx.first hu) := by
  split
  · next hd =>
    refine pad_apply_of_inside _ _ _ x v hp hu _ (ix4 b n h ⟨d.val, hd⟩) fun a => ?_
    fin_cases a <;> simp [ix4]
  · next hd =>
    refine pad_apply_of_not_inside _ _ _ x v hp hu _ 3 fun hh => hd ?_
    simpa [ix4] using hh.2.2

/-- A row padded from 192 to 256 lanes: the row below 192, the padding above. -/
theorem pad_context (x : FVec Ideal S2x256x8x192 .f32) (v : FVec Ideal S_ .f32)
    (hp : S2x256x8x192.Pads ![0, 0, 0, 0] ![0, 0, 0, 64] ![0, 0, 0, 0] S2x256x8x256) (hu : 0 < S_.numel)
    (b : Fin 2) (n : Fin 256) (h : Fin 8) (d : Fin 256) :
    pad S2x256x8x256 ![0, 0, 0, 0] ![0, 0, 0, 64] ![0, 0, 0, 0] x v hp hu (ix4 b n h d)
      = if hd : d.val < 192 then x (ix4 b n h ⟨d.val, hd⟩) else v (Shape.Idx.first hu) := by
  split
  · next hd =>
    refine pad_apply_of_inside _ _ _ x v hp hu _ (ix4 b n h ⟨d.val, hd⟩) fun a => ?_
    fin_cases a <;> simp [ix4]
  · next hd =>
    refine pad_apply_of_not_inside _ _ _ x v hp hu _ 3 fun hh => hd ?_
    simpa [ix4] using hh.2.2

variable (m : (ℓ : Loc nD τ sig) → Buf (Elt Ideal) ℓ)

theorem q_at (c : Dev nD) (b : Fin 2) (n : Fin 8192) (h : Fin 8) (d : Fin 256) :
    (V m c main_v4 : FVec Ideal S2x8192x2048 .bf16) (ix3 b n ⟨h.val * 256 + d.val, by omega⟩)
      = (if hd : d.val < 192 then (show EReal from (m (c, Proc.tc.devRef main_arg0) : FVec Ideal S2x8192x8x192 .f32) (ix4 b n h ⟨d.val, hd⟩)) * (Ideal.ofBits FTy.f32 0x3D93CD3A#32 : EReal) else 0 : EReal) := by
  unfold V
  unfold hostOps0 hostOps0_1 hostOps0_2 hostOps0_3 hostOps0_4 hostOps0_5 hostOps0_6
  simp only [List.flatten_cons, List.flatten_nil, List.cons_append, List.nil_append, List.append_nil]
  entry_read
  pointwise
  simp -implicitDefEqProofs only [StableHlo.TRef.toBuf, StableHlo.TRef.ofBuf, cast_eq]
  rw [show (ix4 b n (⟨(h.val * 256 + d.val) / 256, by omega⟩ : Fin 8) (⟨(h.val * 256 + d.val) % 256, by omega⟩ : Fin 256) : S2x8192x8x256.Idx) = ix4 b n h d from by
    congr 1 <;> exact Fin.ext (by dsimp only; omega), pad_latent]
  split
  · pointwise
  · pointwise
    exact sitofp_zero

end Cert.KernelIdeal.Value

end
-- ==== Proof.ArgsK.lean ====
module

public import proofs.«01_k».proof.Proof.ArgsQ

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable (m : (ℓ : Loc nD τ sig) → Buf (Elt Ideal) ℓ)

theorem kc_at (c : Dev nD) (b : Fin 2) (n : Fin 256) (h : Fin 8) (d : Fin 256) :
    (V m c main_v7 : FVec Ideal S2x256x2048 .bf16) (ix3 b n ⟨h.val * 256 + d.val, by omega⟩)
      = (if hd : d.val < 192 then (show EReal from (m (c, Proc.tc.devRef main_arg1) : FVec Ideal S2x256x8x192 .f32) (ix4 b n h ⟨d.val, hd⟩)) else 0 : EReal) := by
  unfold V
  unfold hostOps0 hostOps0_1 hostOps0_2 hostOps0_3 hostOps0_4 hostOps0_5 hostOps0_6
  simp only [List.flatten_cons, List.flatten_nil, List.cons_append, List.nil_append, List.append_nil]
  entry_read
  pointwise
  simp -implicitDefEqProofs only [StableHlo.TRef.toBuf, StableHlo.TRef.ofBuf, cast_eq]
  rw [show (ix4 b n (⟨(h.val * 256 + d.val) / 256, by omega⟩ : Fin 8) (⟨(h.val * 256 + d.val) % 256, by omega⟩ : Fin 256) : S2x256x8x256.Idx) = ix4 b n h d from by
    congr 1 <;> exact Fin.ext (by dsimp only; omega), pad_context]
  split
  · pointwise
  · pointwise
    exact sitofp_zero

theorem kl_at (c : Dev nD) (b : Fin 2) (n : Fin 8192) (h : Fin 8) (d : Fin 256) :
    (V m c main_v12 : FVec Ideal S2x8192x2048 .bf16) (ix3 b n ⟨h.val * 256 + d.val, by omega⟩)
      = (if hd : d.val < 192 then (show EReal from (m (c, Proc.tc.devRef main_arg3) : FVec Ideal S2x8192x8x192 .f32) (ix4 b n h ⟨d.val, hd⟩)) else 0 : EReal) := by
  unfold V
  unfold hostOps0 hostOps0_1 hostOps0_2 hostOps0_3 hostOps0_4 hostOps0_5 hostOps0_6
  simp only [List.flatten_cons, List.flatten_nil, List.cons_append, List.nil_append, List.append_nil]
  entry_read
  pointwise
  simp -implicitDefEqProofs only [StableHlo.TRef.toBuf, StableHlo.TRef.ofBuf, cast_eq]
  rw [show (ix4 b n (⟨(h.val * 256 + d.val) / 256, by omega⟩ : Fin 8) (⟨(h.val * 256 + d.val) % 256, by omega⟩ : Fin 256) : S2x8192x8x256.Idx) = ix4 b n h d from by
    congr 1 <;> exact Fin.ext (by dsimp only; omega), pad_latent]
  split
  · pointwise
  · pointwise
    exact sitofp_zero

end Cert.KernelIdeal.Value

end
-- ==== Proof.ArgsS.lean ====
module

public import proofs.«01_k».proof.Proof.Gen.KernelIdeal.Frame
public import Idealize.ShloMosaic.Lib.Pipeline.ValueKit
public import Idealize.ShloMosaic.Lib.Claim
public import Idealize.ShloMosaic.Lib.StableHlo.ReadAt
public import Idealize.ShloMosaic.Lib.Pointwise
public import Idealize.ShloMosaic.Lib.KernelVsHost
public import Idealize.ShloMosaic.Lib.Routing.OpsSet
public import Idealize.ShloMosaic.Lib.Routing.OpsPair

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

theorem ofBits_one : (Ideal.ofBits FTy.bf16 0x3F80#16 : EReal) = 1 := by
  simp [Ideal.ofBits, Ideal.ieee]
  rw [← EReal.coe_mul]
  norm_num

/-- The scale is a real number. -/
theorem scale_real : ∃ r : ℝ, (Ideal.ofBits FTy.f32 0x3D93CD3A#32 : EReal) = (r : EReal) := by
  simp only [Ideal.ofBits, Ideal.ieee]
  norm_num
  exact ⟨_, (EReal.coe_mul _ _).symm⟩

theorem ones_context (idx : IVec S1 32) (h0 : idx (ix1 0) = 0#32) (x : FVec Ideal S2x256x8x128 .bf16) (u : FVec Ideal S2x256x8 .bf16) (w : EReal)
    (hw : ∀ k, u k = w) (b : Fin 2) (n : Fin 256) (h : Fin 8) :
    Host.scatter scatter_S2x256x8x128_S1_S2x256x8_012_3_3_0 (fun _ b => b) x idx u (ix4 b n h 0) = w := by
  refine Routing.scatter_set_hit _ x idx u _ w (fun k _ => hw k) (ix3 b n h) ?_
  rw [Routing.resultIdx?_eq_some]
  intro a
  have hstart : ScatterDims.start scatter_S2x256x8x128_S1_S2x256x8_012_3_3_0 (ix3 b n h) idx a = 0 := by
    unfold ScatterDims.start
    split
    · rw [show ∀ j : S1.Idx, idx j = 0#32 from fun j => by rw [← h0]; congr 1; funext q; apply Fin.ext; fin_cases q; have := (j 0).isLt; exact Nat.lt_one_iff.1 this]
      rfl
    · rfl
  rw [hstart, zero_add]
  have hk : ScatterDims.sKept scatter_S2x256x8x128_S1_S2x256x8_012_3_3_0 = [0, 1, 2] := by decide
  fin_cases a <;> first | rfl | (unfold ScatterDims.window; simp [hk]; rfl)

theorem ones_latent (idx : IVec S1 32) (h0 : idx (ix1 0) = 0#32) (x : FVec Ideal S2x8192x8x128 .bf16) (u : FVec Ideal S2x8192x8 .bf16) (w : EReal)
    (hw : ∀ k, u k = w) (b : Fin 2) (n : Fin 8192) (h : Fin 8) :
    Host.scatter scatter_S2x8192x8x128_S1_S2x8192x8_012_3_3_0 (fun _ b => b) x idx u (ix4 b n h 0) = w := by
  refine Routing.scatter_set_hit _ x idx u _ w (fun k _ => hw k) (ix3 b n h) ?_
  rw [Routing.resultIdx?_eq_some]
  intro a
  have hstart : ScatterDims.start scatter_S2x8192x8x128_S1_S2x8192x8_012_3_3_0 (ix3 b n h) idx a = 0 := by
    unfold ScatterDims.start
    split
    · rw [show ∀ j : S1.Idx, idx j = 0#32 from fun j => by rw [← h0]; congr 1; funext q; apply Fin.ext; fin_cases q; have := (j 0).isLt; exact Nat.lt_one_iff.1 this]
      rfl
    · rfl
  rw [hstart, zero_add]
  have hk : ScatterDims.sKept scatter_S2x8192x8x128_S1_S2x8192x8_012_3_3_0 = [0, 1, 2] := by decide
  fin_cases a <;> first | rfl | (unfold ScatterDims.window; simp [hk]; rfl)

end Cert.KernelIdeal.Value

end
-- ==== Proof.ArgsV.lean ====
module

public import proofs.«01_k».proof.Proof.ArgsS

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable (m : (ℓ : Loc nD τ sig) → Buf (Elt Ideal) ℓ)

theorem vc_at (c : Dev nD) (b : Fin 2) (h : Fin 8) (r : Fin 128) (n : Fin 256) :
    (V m c main_v22 : FVec Ideal S2x2048x256 .bf16) (ix3 b ⟨h.val * 256 + r.val, by omega⟩ n)
      = (m (c, Proc.tc.devRef main_arg2) : FVec Ideal S2x256x8x128 .f32) (ix4 b n h r) := by
  unfold V
  unfold hostOps0 hostOps0_1 hostOps0_2 hostOps0_3 hostOps0_4 hostOps0_5 hostOps0_6
  simp only [List.flatten_cons, List.flatten_nil, List.cons_append, List.nil_append, List.append_nil]
  entry_read
  pointwise
  rw [dif_pos (by omega)]
  congr 2 <;> exact Fin.ext (by first | omega | (dsimp only; omega))
theorem vc_at_ones (c : Dev nD) (b : Fin 2) (h : Fin 8) (n : Fin 256) :
    (V m c main_v22 : FVec Ideal S2x2048x256 .bf16) (ix3 b ⟨h.val * 256 + 128, by omega⟩ n) = (1 : EReal) := by
  unfold V
  unfold hostOps0 hostOps0_1 hostOps0_2 hostOps0_3 hostOps0_4 hostOps0_5 hostOps0_6
  simp only [List.flatten_cons, List.flatten_nil, List.cons_append, List.nil_append, List.append_nil]
  entry_read
  pointwise
  rw [dif_neg (by omega)]
  rw [show (⟨(h.val * 256 + 128) % 256 - 128, by omega⟩ : Fin 128) = 0 from Fin.ext (by show (h.val * 256 + 128) % 256 - 128 = 0; omega)]
  exact ones_context _ rfl _ _ _ (fun _ => ofBits_one) b n h

theorem vl_at (c : Dev nD) (b : Fin 2) (h : Fin 8) (r : Fin 128) (n : Fin 8192) :
    (V m c main_v30 : FVec Ideal S2x2048x8192 .bf16) (ix3 b ⟨h.val * 256 + r.val, by omega⟩ n)
      = (m (c, Proc.tc.devRef main_arg4) : FVec Ideal S2x8192x8x128 .f32) (ix4 b n h r) := by
  unfold V
  unfold hostOps0 hostOps0_1 hostOps0_2 hostOps0_3 hostOps0_4 hostOps0_5 hostOps0_6
  simp only [List.flatten_cons, List.flatten_nil, List.cons_append, List.nil_append, List.append_nil]
  entry_read
  pointwise
  rw [dif_pos (by omega)]
  congr 2 <;> exact Fin.ext (by first | omega | (dsimp only; omega))
theorem vl_at_ones (c : Dev nD) (b : Fin 2) (h : Fin 8) (n : Fin 8192) :
    (V m c main_v30 : FVec Ideal S2x2048x8192 .bf16) (ix3 b ⟨h.val * 256 + 128, by omega⟩ n) = (1 : EReal) := by
  unfold V
  unfold hostOps0 hostOps0_1 hostOps0_2 hostOps0_3 hostOps0_4 hostOps0_5 hostOps0_6
  simp only [List.flatten_cons, List.flatten_nil, List.cons_append, List.nil_append, List.append_nil]
  entry_read
  pointwise
  rw [dif_neg (by omega)]
  rw [show (⟨(h.val * 256 + 128) % 256 - 128, by omega⟩ : Fin 128) = 0 from Fin.ext (by show (h.val * 256 + 128) % 256 - 128 = 0; omega)]
  exact ones_latent _ rfl _ _ _ (fun _ => ofBits_one) b n h

end Cert.KernelIdeal.Value

end
-- ==== Proof.Grid.lean ====
module

public import proofs.«01_k».proof.Proof.Gen.KernelIdeal.Frame
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

/-- The key block of step `j`: the block before it, and block 0 at the first step. -/
theorem key_block (n : ℕ) (h : n < 9) : (Scalar.maxsi (Scalar.subi (BitVec.ofNat 32 n) 1#32) 0#32).toNat = n - 1 := by
  have e : ∀ k : Fin 9, (Scalar.maxsi (Scalar.subi (BitVec.ofNat 32 k.val) 1#32) 0#32).toNat = k.val - 1 := by decide
  exact e ⟨n, h⟩

theorem t_lt (t : Fin cfg0.N) : t.val < 1152 := lt_of_lt_of_eq t.isLt N_0

/-- The four grid coordinates of point `t`: batch, head, query tile, key step. -/
theorem coords_at (t : Fin cfg0.N) : (grid0.coords t 0).val = t.val / 576 ∧ (grid0.coords t 1).val = t.val / 72 % 8
    ∧ (grid0.coords t 2).val = t.val / 9 % 8 ∧ (grid0.coords t 3).val = t.val % 9 := by
  have h0 := Pipeline.Grid.coords_val (G := grid0) t 0 (S := 576) (B := 2) (by decide) rfl
  have h1 := Pipeline.Grid.coords_val (G := grid0) t 1 (S := 72) (B := 8) (by decide) rfl
  have h2 := Pipeline.Grid.coords_val (G := grid0) t 2 (S := 9) (B := 8) (by decide) rfl
  have h3 := Pipeline.Grid.coords_val (G := grid0) t 3 (S := 1) (B := 9) (by decide) rfl
  have ht := t_lt t
  refine ⟨h0.trans (by omega), h1, h2, h3.trans (by omega)⟩

/-- The index maps at point `t`. -/
theorem idx_win (t : Fin cfg0.N) : win0_0.index t = ![t.val / 576, t.val / 9 % 8, t.val / 72 % 8] ∧ win0_1.index t = ![t.val / 576, 0, t.val / 72 % 8]
    ∧ win0_2.index t = ![t.val / 576, t.val / 72 % 8, 0] ∧ win0_3.index t = ![t.val / 576, t.val % 9 - 1, t.val / 72 % 8]
    ∧ win0_4.index t = ![t.val / 576, t.val / 72 % 8, t.val % 9 - 1] ∧ win0_5.index t = ![t.val / 576, t.val / 9 % 8, t.val / 72 % 8] := by
  have ht := t_lt t
  obtain ⟨e0, e1, e2, e3⟩ := coords_at t
  have w (n : ℕ) (h : n < 1152) : (BitVec.ofNat 32 n).toNat = n := by
    rw [BitVec.toNat_ofNat]; exact Nat.mod_eq_of_lt (by omega)
  have k := key_block (t.val % 9) (by omega)
  have c0 : cc0_transform_0 (grid0.coords t) = ![t.val / 576, t.val / 9 % 8, t.val / 72 % 8] := by
    unfold cc0_transform_0; dsimp only; rw [e0, e1, e2, w _ (by omega), w _ (by omega), w _ (by omega)]
  have c1 : cc0_transform_1 (grid0.coords t) = ![t.val / 576, 0, t.val / 72 % 8] := by
    unfold cc0_transform_1; dsimp only; rw [e0, e1, w (t.val / 576) (by omega), w (t.val / 72 % 8) (by omega)]; rfl
  have c2 : cc0_transform_2 (grid0.coords t) = ![t.val / 576, t.val / 72 % 8, 0] := by
    unfold cc0_transform_2; dsimp only; rw [e0, e1, w (t.val / 576) (by omega), w (t.val / 72 % 8) (by omega)]; rfl
  have c3 : cc0_transform_3 (grid0.coords t) = ![t.val / 576, t.val % 9 - 1, t.val / 72 % 8] := by
    unfold cc0_transform_3; dsimp only; rw [e0, e1, e3, k, w (t.val / 576) (by omega), w (t.val / 72 % 8) (by omega)]
  have c4 : cc0_transform_4 (grid0.coords t) = ![t.val / 576, t.val / 72 % 8, t.val % 9 - 1] := by
    unfold cc0_transform_4; dsimp only; rw [e0, e1, e3, k, w (t.val / 576) (by omega), w (t.val / 72 % 8) (by omega)]
  have c5 : cc0_transform_5 (grid0.coords t) = ![t.val / 576, t.val / 9 % 8, t.val / 72 % 8] := by
    unfold cc0_transform_5; dsimp only; rw [e0, e1, e2, w _ (by omega), w _ (by omega), w _ (by omega)]
  exact ⟨c0, c1, c2, c3, c4, c5⟩

end Cert.KernelIdeal.Value

end
-- ==== Proof.Blocks.lean ====
module

public import proofs.«01_k».proof.Proof.Grid

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable (m : (ℓ : Loc nD τ sig) → Buf (Elt Ideal) ℓ)

theorem rd0 (A : (Pipeline.arrRef spec0 0).ty.Contents (Elt Ideal)) (t : Fin cfg0.N) (j : Fin 1024) (d : Fin 256) :
    ((win0_0.blk t).view.read (Elt Ideal) A : FVec Ideal S1x1024x256 .bf16) (ix3 0 j d) = (A : FVec Ideal S2x8192x2048 .bf16)
      (ix3 ⟨t.val / 576, by have := t_lt t; omega⟩ ⟨t.val / 9 % 8 * 1024 + j.val, by omega⟩ ⟨t.val / 72 % 8 * 256 + d.val, by omega⟩) := by
  obtain ⟨h0, h1, h2, h3, h4, h5⟩ := idx_win t
  refine congrArg A (a₁ := (win0_0.rect t).emb (ix3 0 j d)) ?_
  funext a
  apply Fin.ext
  refine (Pipeline.Window.rect_emb_val win0_0 t _ a).trans ?_
  rw [h0]
  fin_cases a
  · show t.val / 576 * 1 + 0 = t.val / 576
    omega
  · show t.val / 9 % 8 * 1024 + j.val = t.val / 9 % 8 * 1024 + j.val
    omega
  · show t.val / 72 % 8 * 256 + d.val = t.val / 72 % 8 * 256 + d.val
    omega

/-- Block 0 of point `t`, at an index. -/
theorem blk0 (c : Dev nD) (t : Fin cfg0.N) (j : Fin 1024) (d : Fin 256) :
    (iblk m c 0 t : FVec Ideal S1x1024x256 .bf16) (ix3 0 j d) = (V m c main_v4 : FVec Ideal S2x8192x2048 .bf16)
      (ix3 ⟨t.val / 576, by have := t_lt t; omega⟩ ⟨t.val / 9 % 8 * 1024 + j.val, by omega⟩ ⟨t.val / 72 % 8 * 256 + d.val, by omega⟩) := by
  unfold iblk
  exact rd0 (V m c main_v4) t j d

theorem rd1 (A : (Pipeline.arrRef spec0 1).ty.Contents (Elt Ideal)) (t : Fin cfg0.N) (j : Fin 256) (d : Fin 256) :
    ((win0_1.blk t).view.read (Elt Ideal) A : FVec Ideal S1x256x256 .bf16) (ix3 0 j d) = (A : FVec Ideal S2x256x2048 .bf16)
      (ix3 ⟨t.val / 576, by have := t_lt t; omega⟩ j ⟨t.val / 72 % 8 * 256 + d.val, by omega⟩) := by
  obtain ⟨h0, h1, h2, h3, h4, h5⟩ := idx_win t
  refine congrArg A (a₁ := (win0_1.rect t).emb (ix3 0 j d)) ?_
  funext a
  apply Fin.ext
  refine (Pipeline.Window.rect_emb_val win0_1 t _ a).trans ?_
  rw [h1]
  fin_cases a
  · show t.val / 576 * 1 + 0 = t.val / 576
    omega
  · show 0 * 256 + j.val = j.val
    omega
  · show t.val / 72 % 8 * 256 + d.val = t.val / 72 % 8 * 256 + d.val
    omega

/-- Block 1 of point `t`, at an index. -/
theorem blk1 (c : Dev nD) (t : Fin cfg0.N) (j : Fin 256) (d : Fin 256) :
    (iblk m c 1 t : FVec Ideal S1x256x256 .bf16) (ix3 0 j d) = (V m c main_v7 : FVec Ideal S2x256x2048 .bf16)
      (ix3 ⟨t.val / 576, by have := t_lt t; omega⟩ j ⟨t.val / 72 % 8 * 256 + d.val, by omega⟩) := by
  unfold iblk
  exact rd1 (V m c main_v7) t j d

theorem rd2 (A : (Pipeline.arrRef spec0 2).ty.Contents (Elt Ideal)) (t : Fin cfg0.N) (r : Fin 256) (k : Fin 256) :
    ((win0_2.blk t).view.read (Elt Ideal) A : FVec Ideal S1x256x256 .bf16) (ix3 0 r k) = (A : FVec Ideal S2x2048x256 .bf16)
      (ix3 ⟨t.val / 576, by have := t_lt t; omega⟩ ⟨t.val / 72 % 8 * 256 + r.val, by omega⟩ k) := by
  obtain ⟨h0, h1, h2, h3, h4, h5⟩ := idx_win t
  refine congrArg A (a₁ := (win0_2.rect t).emb (ix3 0 r k)) ?_
  funext a
  apply Fin.ext
  refine (Pipeline.Window.rect_emb_val win0_2 t _ a).trans ?_
  rw [h2]
  fin_cases a
  · show t.val / 576 * 1 + 0 = t.val / 576
    omega
  · show t.val / 72 % 8 * 256 + r.val = t.val / 72 % 8 * 256 + r.val
    omega
  · show 0 * 256 + k.val = k.val
    omega

/-- Block 2 of point `t`, at an index. -/
theorem blk2 (c : Dev nD) (t : Fin cfg0.N) (r : Fin 256) (k : Fin 256) :
    (iblk m c 2 t : FVec Ideal S1x256x256 .bf16) (ix3 0 r k) = (V m c main_v22 : FVec Ideal S2x2048x256 .bf16)
      (ix3 ⟨t.val / 576, by have := t_lt t; omega⟩ ⟨t.val / 72 % 8 * 256 + r.val, by omega⟩ k) := by
  unfold iblk
  exact rd2 (V m c main_v22) t r k

theorem rd3 (A : (Pipeline.arrRef spec0 3).ty.Contents (Elt Ideal)) (t : Fin cfg0.N) (j : Fin 1024) (d : Fin 256) :
    ((win0_3.blk t).view.read (Elt Ideal) A : FVec Ideal S1x1024x256 .bf16) (ix3 0 j d) = (A : FVec Ideal S2x8192x2048 .bf16)
      (ix3 ⟨t.val / 576, by have := t_lt t; omega⟩ ⟨(t.val % 9 - 1) * 1024 + j.val, by omega⟩ ⟨t.val / 72 % 8 * 256 + d.val, by omega⟩) := by
  obtain ⟨h0, h1, h2, h3, h4, h5⟩ := idx_win t
  refine congrArg A (a₁ := (win0_3.rect t).emb (ix3 0 j d)) ?_
  funext a
  apply Fin.ext
  refine (Pipeline.Window.rect_emb_val win0_3 t _ a).trans ?_
  rw [h3]
  fin_cases a
  · show t.val / 576 * 1 + 0 = t.val / 576
    omega
  · show (t.val % 9 - 1) * 1024 + j.val = (t.val % 9 - 1) * 1024 + j.val
    omega
  · show t.val / 72 % 8 * 256 + d.val = t.val / 72 % 8 * 256 + d.val
    omega

/-- Block 3 of point `t`, at an index. -/
theorem blk3 (c : Dev nD) (t : Fin cfg0.N) (j : Fin 1024) (d : Fin 256) :
    (iblk m c 3 t : FVec Ideal S1x1024x256 .bf16) (ix3 0 j d) = (V m c main_v12 : FVec Ideal S2x8192x2048 .bf16)
      (ix3 ⟨t.val / 576, by have := t_lt t; omega⟩ ⟨(t.val % 9 - 1) * 1024 + j.val, by omega⟩ ⟨t.val / 72 % 8 * 256 + d.val, by omega⟩) := by
  unfold iblk
  exact rd3 (V m c main_v12) t j d

theorem rd4 (A : (Pipeline.arrRef spec0 4).ty.Contents (Elt Ideal)) (t : Fin cfg0.N) (r : Fin 256) (k : Fin 1024) :
    ((win0_4.blk t).view.read (Elt Ideal) A : FVec Ideal S1x256x1024 .bf16) (ix3 0 r k) = (A : FVec Ideal S2x2048x8192 .bf16)
      (ix3 ⟨t.val / 576, by have := t_lt t; omega⟩ ⟨t.val / 72 % 8 * 256 + r.val, by omega⟩ ⟨(t.val % 9 - 1) * 1024 + k.val, by omega⟩) := by
  obtain ⟨h0, h1, h2, h3, h4, h5⟩ := idx_win t
  refine congrArg A (a₁ := (win0_4.rect t).emb (ix3 0 r k)) ?_
  funext a
  apply Fin.ext
  refine (Pipeline.Window.rect_emb_val win0_4 t _ a).trans ?_
  rw [h4]
  fin_cases a
  · show t.val / 576 * 1 + 0 = t.val / 576
    omega
  · show t.val / 72 % 8 * 256 + r.val = t.val / 72 % 8 * 256 + r.val
    omega
  · show (t.val % 9 - 1) * 1024 + k.val = (t.val % 9 - 1) * 1024 + k.val
    omega

/-- Block 4 of point `t`, at an index. -/
theorem blk4 (c : Dev nD) (t : Fin cfg0.N) (r : Fin 256) (k : Fin 1024) :
    (iblk m c 4 t : FVec Ideal S1x256x1024 .bf16) (ix3 0 r k) = (V m c main_v30 : FVec Ideal S2x2048x8192 .bf16)
      (ix3 ⟨t.val / 576, by have := t_lt t; omega⟩ ⟨t.val / 72 % 8 * 256 + r.val, by omega⟩ ⟨(t.val % 9 - 1) * 1024 + k.val, by omega⟩) := by
  unfold iblk
  exact rd4 (V m c main_v30) t r k

end Cert.KernelIdeal.Value

end
-- ==== Proof.Rows.lean ====
module

public import proofs.«01_k».proof.Proof.KernelBlock
public import proofs.«01_k».proof.Proof.ArgsK
public import proofs.«01_k».proof.Proof.ArgsV
public import proofs.«01_k».proof.Proof.Blocks
public import proofs.«01_k».proof.Proof.Softmax

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable (m : (ℓ : Loc nD τ sig) → Buf (Elt Ideal) ℓ)

/-- A score of padded rows: the 64 padded lanes add nothing, and the scale comes out of the sum. -/
theorem padded_score (A B : Fin 192 → ℝ) (s : ℝ) :
    (∑ d : Fin 256, (if hd : d.val < 192 then (A ⟨d.val, hd⟩ : EReal) else 0) * (if hd : d.val < 192 then (B ⟨d.val, hd⟩ : EReal) * (s : EReal) else 0) : EReal)
      = (((∑ d : Fin 192, B d * A d) * s : ℝ) : EReal) := by
  have e : ∀ d : Fin 256, ((if hd : d.val < 192 then (A ⟨d.val, hd⟩ : EReal) else 0) * (if hd : d.val < 192 then (B ⟨d.val, hd⟩ : EReal) * (s : EReal) else 0) : EReal)
      = ((if hd : d.val < 192 then A ⟨d.val, hd⟩ * (B ⟨d.val, hd⟩ * s) else 0 : ℝ) : EReal) := fun d => by
    split
    · rw [← EReal.coe_mul, ← EReal.coe_mul]
    · simp
  rw [Finset.sum_congr rfl fun d _ => e d, ← Cert.Softmax.coe_sum]
  congr 1
  rw [show (256 : ℕ) = 192 + 64 from rfl, Fin.sum_univ_add, Finset.sum_mul]
  rw [Finset.sum_eq_zero (s := (Finset.univ : Finset (Fin 64))) (fun d _ => dif_neg (by simp [Fin.natAdd])), add_zero]
  refine Finset.sum_congr rfl fun d _ => ?_
  rw [dif_pos (by simp [Fin.castAdd])]
  simp only [Fin.castAdd, Fin.castLE]
  ring

theorem lt_batch (t : Fin cfg0.N) : t.val / 576 < 2 := by have := t_lt t; omega
theorem lt_head (t : Fin cfg0.N) : t.val / 72 % 8 < 8 := by omega
theorem lt_query (t : Fin cfg0.N) (j : Fin 1024) : t.val / 9 % 8 * 1024 + j.val < 8192 := by omega
theorem lt_key (t : Fin cfg0.N) (k : Fin 1024) : (t.val % 9 - 1) * 1024 + k.val < 8192 := by omega

/-- The scale as a real number. -/
def scale : ℝ := (Ideal.ofBits FTy.f32 0x3D93CD3A#32 : EReal).toReal

theorem scale_coe : (Ideal.ofBits FTy.f32 0x3D93CD3A#32 : EReal) = (scale : EReal) := by
  obtain ⟨r, hr⟩ := scale_real
  rw [scale, hr, EReal.toReal_coe]

/-- Query rows, context keys and latent keys as real numbers. -/
structure Rows where
  q : Fin 2 → Fin 8192 → Fin 8 → Fin 192 → ℝ
  kc : Fin 2 → Fin 256 → Fin 8 → Fin 192 → ℝ
  kl : Fin 2 → Fin 8192 → Fin 8 → Fin 192 → ℝ

/-- The score of a query against key `k`: the context's 256 keys first, then the latent ones. -/
def Rows.score (R : Rows) (b : Fin 2) (h : Fin 8) (n : Fin 8192) (k : ℕ) : ℝ :=
  if hk : k < 256 then (∑ d : Fin 192, R.q b n h d * R.kc b ⟨k, hk⟩ h d) * scale
  else if hk' : k - 256 < 8192 then (∑ d : Fin 192, R.q b n h d * R.kl b ⟨k - 256, hk'⟩ h d) * scale else 0

/-- Column `r` of the values, over the same keys. -/
def value (vc : FVec Ideal S2x256x8x128 .f32) (vl : FVec Ideal S2x8192x8x128 .f32) (b : Fin 2) (h : Fin 8) (r : Fin 128) (k : ℕ) : EReal :=
  if hk : k < 256 then vc (ix4 b ⟨k, hk⟩ h r) else if hk' : k - 256 < 8192 then vl (ix4 b ⟨k - 256, hk'⟩ h r) else 0

/-- The arguments hold the rows `R`. -/
structure Holds (c : Dev nD) (R : Rows) : Prop where
  q : ∀ b n h d, ((m (c, Proc.tc.devRef main_arg0) : FVec Ideal S2x8192x8x192 .f32) (ix4 b n h d) : EReal) = (R.q b n h d : EReal)
  kc : ∀ b n h d, ((m (c, Proc.tc.devRef main_arg1) : FVec Ideal S2x256x8x192 .f32) (ix4 b n h d) : EReal) = (R.kc b n h d : EReal)
  kl : ∀ b n h d, ((m (c, Proc.tc.devRef main_arg3) : FVec Ideal S2x8192x8x192 .f32) (ix4 b n h d) : EReal) = (R.kl b n h d : EReal)

variable {m} {c : Dev nD} {R : Rows} (H : Holds m c R) (t : Fin cfg0.N) (b : Fin 2) (h : Fin 8) (hb : t.val / 576 = b.val) (hh : t.val / 72 % 8 = h.val)
include hb hh

theorem q_blk (H : Holds m c R) (n : Fin 8192) (j : Fin 1024) (hn : t.val / 9 % 8 * 1024 + j.val = n.val) (d : Fin 256) :
    ((iblk m c 0 t : FVec Ideal S1x1024x256 .bf16) (ix3 0 j d) : EReal)
      = if hd : d.val < 192 then (R.q b n h ⟨d.val, hd⟩ : EReal) * (scale : EReal) else 0 := by
  obtain rfl : b = ⟨t.val / 576, lt_batch t⟩ := Fin.ext hb.symm
  obtain rfl : h = ⟨t.val / 72 % 8, lt_head t⟩ := Fin.ext hh.symm
  obtain rfl : n = ⟨t.val / 9 % 8 * 1024 + j.val, lt_query t j⟩ := Fin.ext hn.symm
  refine (blk0 m c t j d).trans ((q_at m c _ _ ⟨t.val / 72 % 8, by omega⟩ d).trans ?_)
  split
  · rw [← scale_coe, ← H.q]
  · rfl

theorem kc_blk (H : Holds m c R) (k : Fin 256) (d : Fin 256) :
    ((iblk m c 1 t : FVec Ideal S1x256x256 .bf16) (ix3 0 k d) : EReal)
      = if hd : d.val < 192 then (R.kc b k h ⟨d.val, hd⟩ : EReal) else 0 := by
  obtain rfl : b = ⟨t.val / 576, lt_batch t⟩ := Fin.ext hb.symm
  obtain rfl : h = ⟨t.val / 72 % 8, lt_head t⟩ := Fin.ext hh.symm
  refine (blk1 m c t k d).trans ((kc_at m c _ _ ⟨t.val / 72 % 8, by omega⟩ d).trans ?_)
  split
  · rw [← H.kc]
  · rfl

theorem kl_blk (H : Holds m c R) (k : Fin 1024) (n : Fin 8192) (hn : (t.val % 9 - 1) * 1024 + k.val = n.val) (d : Fin 256) :
    ((iblk m c 3 t : FVec Ideal S1x1024x256 .bf16) (ix3 0 k d) : EReal)
      = if hd : d.val < 192 then (R.kl b n h ⟨d.val, hd⟩ : EReal) else 0 := by
  obtain rfl : b = ⟨t.val / 576, lt_batch t⟩ := Fin.ext hb.symm
  obtain rfl : h = ⟨t.val / 72 % 8, lt_head t⟩ := Fin.ext hh.symm
  obtain rfl : n = ⟨(t.val % 9 - 1) * 1024 + k.val, lt_key t k⟩ := Fin.ext hn.symm
  refine (blk3 m c t k d).trans ((kl_at m c _ _ ⟨t.val / 72 % 8, by omega⟩ d).trans ?_)
  split
  · rw [← H.kl]
  · rfl

theorem vc_blk (r : Fin 128) (k : Fin 256) :
    ((iblk m c 2 t : FVec Ideal S1x256x256 .bf16) (ix3 0 ⟨r.val, by omega⟩ k) : EReal)
      = value (m (c, Proc.tc.devRef main_arg2)) (m (c, Proc.tc.devRef main_arg4)) b h r k.val := by
  obtain rfl : b = ⟨t.val / 576, lt_batch t⟩ := Fin.ext hb.symm
  obtain rfl : h = ⟨t.val / 72 % 8, lt_head t⟩ := Fin.ext hh.symm
  rw [value, dif_pos k.isLt]
  exact (blk2 m c t ⟨r.val, by omega⟩ k).trans (vc_at m c _ ⟨t.val / 72 % 8, by omega⟩ r k)

theorem vc_ones (k : Fin 256) : ((iblk m c 2 t : FVec Ideal S1x256x256 .bf16) (ix3 0 128 k) : EReal) = (1 : EReal) :=
  (blk2 m c t 128 k).trans (vc_at_ones m c _ ⟨t.val / 72 % 8, by omega⟩ k)

theorem vl_blk (r : Fin 128) (k : Fin 1024) (h1 : 1 ≤ t.val % 9) :
    ((iblk m c 4 t : FVec Ideal S1x256x1024 .bf16) (ix3 0 ⟨r.val, by omega⟩ k) : EReal)
      = value (m (c, Proc.tc.devRef main_arg2)) (m (c, Proc.tc.devRef main_arg4)) b h r (256 + 1024 * (t.val % 9 - 1) + k.val) := by
  obtain rfl : b = ⟨t.val / 576, lt_batch t⟩ := Fin.ext hb.symm
  obtain rfl : h = ⟨t.val / 72 % 8, lt_head t⟩ := Fin.ext hh.symm
  rw [value, dif_neg (by omega), dif_pos (by omega)]
  refine (blk4 m c t ⟨r.val, by omega⟩ k).trans ((vl_at m c _ ⟨t.val / 72 % 8, by omega⟩ r _).trans ?_)
  exact congrArg (fun z => (m (c, Proc.tc.devRef main_arg4) : FVec Ideal S2x8192x8x128 .f32) (ix4 _ z _ r)) (Fin.ext (by dsimp only; omega))

theorem vl_ones (k : Fin 1024) : ((iblk m c 4 t : FVec Ideal S1x256x1024 .bf16) (ix3 0 128 k) : EReal) = (1 : EReal) :=
  (blk4 m c t 128 k).trans (vl_at_ones m c _ ⟨t.val / 72 % 8, by omega⟩ _)

theorem context_score (H : Holds m c R) (n : Fin 8192) (j : Fin 1024) (hn : t.val / 9 % 8 * 1024 + j.val = n.val) (k : Fin 256) :
    scoreC (iblk m c 0 t) (iblk m c 1 t) j k = (R.score b h n k.val : EReal) := by
  refine (Finset.sum_congr rfl fun d _ => congrArg₂ (fun x y : EReal => x * y) (kc_blk t b h hb hh H k d) (q_blk t b h hb hh H n j hn d)).trans ?_
  rw [padded_score (R.kc b k h) (R.q b n h), Rows.score, dif_pos k.isLt]

theorem latent_score (H : Holds m c R) (n : Fin 8192) (j : Fin 1024) (hn : t.val / 9 % 8 * 1024 + j.val = n.val) (k : Fin 1024) (h1 : 1 ≤ t.val % 9) :
    scoreL (iblk m c 0 t) (iblk m c 3 t) j k = (R.score b h n (256 + 1024 * (t.val % 9 - 1) + k.val) : EReal) := by
  refine (Finset.sum_congr rfl fun d _ => congrArg₂ (fun x y : EReal => x * y) (kl_blk t b h hb hh H k ⟨256 + 1024 * (t.val % 9 - 1) + k.val - 256, by omega⟩ (by dsimp only; omega) d) (q_blk t b h hb hh H n j hn d)).trans ?_
  rw [padded_score (R.kl b _ h) (R.q b n h), Rows.score, dif_neg (by omega), dif_pos (by omega)]

end Cert.KernelIdeal.Value

end
-- ==== Proof.Trajectory.lean ====
module

public import proofs.«01_k».proof.Proof.Steps
public import proofs.«01_k».proof.Proof.Rows

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Softmax

variable {m : (ℓ : Loc nD τ sig) → Buf (Elt Ideal) ℓ} {c : Dev nD} {R : Rows}

/-- The values' columns over the keys. -/
abbrev val (m : (ℓ : Loc nD τ sig) → Buf (Elt Ideal) ℓ) (c : Dev nD) (b : Fin 2) (h : Fin 8) (r : Fin 128) : ℕ → EReal :=
  value (m (c, Proc.tc.devRef main_arg2)) (m (c, Proc.tc.devRef main_arg4)) b h r

theorem context_row (H : Holds m c R) (t : Fin cfg0.N) (b : Fin 2) (h : Fin 8) (n : Fin 8192) (j : Fin 1024) (hb : t.val / 576 = b.val)
    (hh : t.val / 72 % 8 = h.val) (hn : t.val / 9 % 8 * 1024 + j.val = n.val) :
    scoreC (iblk m c 0 t) (iblk m c 1 t) j = fun k : Fin 256 => (R.score b h n k.val : EReal) :=
  funext fun k => context_score t b h hb hh H n j hn k

theorem latent_row (H : Holds m c R) (t : Fin cfg0.N) (b : Fin 2) (h : Fin 8) (n : Fin 8192) (j : Fin 1024) (hb : t.val / 576 = b.val)
    (hh : t.val / 72 % 8 = h.val) (hn : t.val / 9 % 8 * 1024 + j.val = n.val) (p : ℕ) (hp : t.val % 9 = p + 1) :
    scoreL (iblk m c 0 t) (iblk m c 3 t) j = fun k : Fin 1024 => (R.score b h n (256 + 1024 * p + k.val) : EReal) :=
  funext fun k => (latent_score t b h hb hh H n j hn k (by omega)).trans (by rw [hp, Nat.add_sub_cancel])

theorem latent_vals (t : Fin cfg0.N) (b : Fin 2) (h : Fin 8) (r : Fin 128) (hb : t.val / 576 = b.val)
    (hh : t.val / 72 % 8 = h.val) (p : ℕ) (hp : t.val % 9 = p + 1) :
    (fun k : Fin 1024 => (iblk m c 4 t : FVec Ideal S1x256x1024 .bf16) (ix3 0 ⟨r.val, by omega⟩ k)) = fun k : Fin 1024 => val m c b h r (256 + 1024 * p + k.val) :=
  funext fun k => (vl_blk t b h hb hh r k (by omega)).trans (by rw [hp, Nat.add_sub_cancel])

/-- After step `p` of a query tile the scratch holds the maximum and the sums over the first `256 + 1024 p` keys. -/
theorem trajectory (H : Holds m c R) (T : ℕ) (hT : T % 9 = 0) (b : Fin 2) (h : Fin 8) (n : Fin 8192) (j : Fin 1024) (r : Fin 128)
    (hb : T / 576 = b.val) (hh : T / 72 % 8 = h.val) (hn : T / 9 % 8 * 1024 + j.val = n.val) :
    ∀ p, p ≤ 7 → ∀ hp : T + p < cfg0.N, ∃ M : ℝ, top m c (T + p) hp (ix2 0 j) = (M : EReal)
      ∧ After (R.score b h n) (256 + 1024 * p) M (val m c b h r) (acc m c (T + p) hp (ix2 ⟨r.val, by omega⟩ j))
      ∧ After (R.score b h n) (256 + 1024 * p) M (fun _ => 1) (acc m c (T + p) hp (ix2 128 j)) := by
  intro p
  induction p with
  | zero =>
    intro _ hp
    have eS := context_row H ⟨T, hp⟩ b h n j hb hh hn
    have eV : (fun k : Fin 256 => (iblk m c 2 (⟨T, hp⟩ : Fin cfg0.N) : FVec Ideal S1x256x256 .bf16) (ix3 0 ⟨r.val, by omega⟩ k)) = fun k : Fin 256 => val m c b h r k.val :=
      funext fun k => vc_blk ⟨T, hp⟩ b h hb hh r k
    have eO : (fun k : Fin 256 => (iblk m c 2 (⟨T, hp⟩ : Fin cfg0.N) : FVec Ideal S1x256x256 .bf16) (ix3 0 128 k)) = fun k : Fin 256 => (fun _ : ℕ => (1 : EReal)) k.val :=
      funext fun k => vc_ones ⟨T, hp⟩ b h hb hh k
    obtain ⟨M, hM⟩ := runMax_start (L := 256) (by decide) (fun k => R.score b h n k.val)
    refine ⟨M, ?_, ?_, ?_⟩
    · refine (top_A m c ⟨T, hp⟩ hT j).trans ?_
      rw [eS]; exact hM
    · have e := acc_A m c ⟨T, hp⟩ hT ⟨r.val, by omega⟩ j
      rw [eS, eV] at e
      rw [show acc m c (T + 0) hp (ix2 ⟨r.val, by omega⟩ j) = _ from e, show 256 + 1024 * 0 = 256 from rfl]
      exact after_start _ _ M hM
    · have e := acc_A m c ⟨T, hp⟩ hT 128 j
      rw [eS, eO] at e
      rw [show acc m c (T + 0) hp (ix2 128 j) = _ from e, show 256 + 1024 * 0 = 256 from rfl]
      exact after_start _ _ M hM
  | succ p ih =>
    intro h7 hp
    obtain ⟨M, hM, hA, hL⟩ := ih (by omega) (by omega)
    have hpt : (⟨T + (p + 1), hp⟩ : Fin cfg0.N).val % 9 = p + 1 := by show (T + (p + 1)) % 9 = p + 1; omega
    have eS := latent_row H ⟨T + (p + 1), hp⟩ b h n j (by show (T + (p + 1)) / 576 = _; omega) (by show (T + (p + 1)) / 72 % 8 = _; omega)
      (by show (T + (p + 1)) / 9 % 8 * 1024 + _ = _; omega) p hpt
    have eV := latent_vals (m := m) (c := c) ⟨T + (p + 1), hp⟩ b h r (by show (T + (p + 1)) / 576 = _; omega) (by show (T + (p + 1)) / 72 % 8 = _; omega) p hpt
    have eO : (fun k : Fin 1024 => (iblk m c 4 (⟨T + (p + 1), hp⟩ : Fin cfg0.N) : FVec Ideal S1x256x1024 .bf16) (ix3 0 128 k)) = fun k : Fin 1024 => (fun _ : ℕ => (1 : EReal)) (256 + 1024 * p + k.val) :=
      funext fun k => vl_ones ⟨T + (p + 1), hp⟩ b h (by show (T + (p + 1)) / 576 = _; omega) (by show (T + (p + 1)) / 72 % 8 = _; omega) k
    obtain ⟨M', hM'⟩ := runMax_real (L := 1024) (by decide) (fun k => R.score b h n (256 + 1024 * p + k.val)) M
    refine ⟨M', ?_, ?_, ?_⟩
    · refine (top_B m c ⟨T + (p + 1), hp⟩ (by omega) (by omega) (T + p) (by omega) rfl j).trans ?_
      rw [eS, hM]; exact hM'
    · have e := acc_B m c ⟨T + (p + 1), hp⟩ (by omega) (by omega) (T + p) (by omega) rfl ⟨r.val, by omega⟩ j
      rw [eS, eV, hM] at e
      rw [show acc m c (T + (p + 1)) hp (ix2 ⟨r.val, by omega⟩ j) = _ from e, show 256 + 1024 * (p + 1) = 256 + 1024 * p + 1024 by omega]
      exact after_step _ _ M M' _ hM' hA
    · have e := acc_B m c ⟨T + (p + 1), hp⟩ (by omega) (by omega) (T + p) (by omega) rfl 128 j
      rw [eS, eO, hM] at e
      rw [show acc m c (T + (p + 1)) hp (ix2 128 j) = _ from e, show 256 + 1024 * (p + 1) = 256 + 1024 * p + 1024 by omega]
      exact after_step _ _ M M' _ hM' hL

/-- What the last step of a query tile writes: the values weighted by the scores' softmax, over any real shift. -/
theorem written (H : Holds m c R) (t : Fin cfg0.N) (ht : t.val % 9 = 8) (b : Fin 2) (h : Fin 8) (n : Fin 8192) (j : Fin 1024) (r : Fin 128)
    (hb : t.val / 576 = b.val) (hh : t.val / 72 % 8 = h.val) (hn : t.val / 9 % 8 * 1024 + j.val = n.val) (N : ℝ) :
    (((outsAt0 m c t.val t.isLt).1 : FVec Ideal S1x1024x128 .bf16) (ix3 0 j r) : EReal)
      = ∑ k : Fin 8448, Ideal.div (Ideal.exp ((R.score b h n k : EReal) - (N : EReal)))
          (∑ i : Fin 8448, Ideal.exp ((R.score b h n i : EReal) - (N : EReal))) * val m c b h r k := by
  have htl := t.isLt
  obtain ⟨M, hM, hA, hL⟩ := trajectory H (t.val - 8) (by omega) b h n j r (by omega) (by omega) (by omega) 7 le_rfl (by omega)
  obtain ⟨M', hM'⟩ := runMax_real (L := 1024) (by decide) (fun k => R.score b h n (256 + 1024 * 7 + k.val)) M
  have e := outs_C m c t ht (t.val - 8 + 7) (by omega) (by omega) j r
  have eO : (fun k : Fin 1024 => (iblk m c 4 t : FVec Ideal S1x256x1024 .bf16) (ix3 0 128 k)) = fun k : Fin 1024 => (fun _ : ℕ => (1 : EReal)) (256 + 1024 * 7 + k.val) :=
    funext fun k => vl_ones t b h hb hh k
  rw [latent_row H t b h n j hb hh hn 7 ht, latent_vals t b h r hb hh 7 ht, eO, hM] at e
  have h1 := after_step _ _ M M' _ hM' hA
  have h2 := after_step _ _ M M' _ hM' hL
  have e8 : 256 + 1024 * 7 + 1024 = 8448 := by norm_num
  rw [e8] at h1 h2
  rw [e]
  exact quotient (by norm_num) (R.score b h n) (val m c b h r) M' N _ _ h1 h2

end Cert.KernelIdeal.Value

end
-- ==== Proof.Array.lean ====
module

public import proofs.«01_k».proof.Proof.Trajectory
public import proofs.«01_k».proof.Proof.Gen.KernelIdeal.Value

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Softmax

variable {m : (ℓ : Loc nD τ sig) → Buf (Elt Ideal) ℓ} {c : Dev nD} {R : Rows}

/-- A block of the result, written back: block `t` of an array that agrees with it. -/
theorem block_written (X : FVec Ideal S1x1024x128 .bf16) (G : FVec Ideal S2x8192x1024 .bf16) (t : Fin cfg0.N)
    (hX : ∀ (j : Fin 1024) (r : Fin 128), X (ix3 0 j r) = G (ix3 ⟨t.val / 576, lt_batch t⟩ ⟨t.val / 9 % 8 * 1024 + j.val, lt_query t j⟩ ⟨t.val / 72 % 8 * 128 + r.val, by omega⟩)) :
    (cfg0.win 5).cut (grid0.coords t) X = ((cfg0.win 5).blk t).view.read (Elt Ideal) G := by
  obtain ⟨_, _, _, _, _, h5⟩ := idx_win t
  have key : ∀ y : S1x1024x128.Idx, X y = G ((win0_5.rect t).emb y) := fun y => by
    have ey : y = ix3 0 (y 1) (y 2) := by
      funext a
      apply Fin.ext
      fin_cases a
      · have := (y 0).isLt
        exact Nat.lt_one_iff.1 this
      · rfl
      · rfl
    rw [ey]
    refine (hX _ _).trans (congrArg G ?_)
    funext a
    apply Fin.ext
    refine Eq.trans ?_ (Pipeline.Window.rect_emb_val win0_5 t _ a).symm
    rw [h5]
    fin_cases a
    · show t.val / 576 = t.val / 576 * 1 + 0
      omega
    · rfl
    · rfl
  exact funext fun y => key y

/-- The blocks written back cover the result. -/
theorem blocks_cover (i : S2x8192x1024.Idx) : ∃ t : Fin cfg0.N, (cfg0.win 5).flush t = true ∧ i ∈ ((cfg0.win 5).blk t).view.set := by
  have h0 : (i 0).val < 2 := (i 0).isLt
  have h1 : (i 1).val < 8192 := (i 1).isLt
  have h2 : (i 2).val < 1024 := (i 2).isLt
  have hlt : (((i 0).val * 8 + (i 2).val / 128) * 8 + (i 1).val / 1024) * 9 + 8 < cfg0.N := by
    rw [show cfg0.N = 1152 from N_0]; omega
  obtain ⟨T, hT⟩ : ∃ T, T = (((i 0).val * 8 + (i 2).val / 128) * 8 + (i 1).val / 1024) * 9 + 8 := ⟨_, rfl⟩
  rw [← hT] at hlt
  have e0 : T / 576 = (i 0).val := by omega
  have e1 : T / 9 % 8 = (i 1).val / 1024 := by omega
  have e2 : T / 72 % 8 = (i 2).val / 128 := by omega
  refine ⟨⟨T, hlt⟩, (flush0_5 _).2 (by show T % 9 = 8; omega), ?_⟩
  obtain ⟨_, _, _, _, _, h5⟩ := idx_win ⟨T, hlt⟩
  refine (Pipeline.Window.emb_mem_blk_iff win0_5 ⟨T, hlt⟩ i).2 fun a => ?_
  rw [h5]
  fin_cases a
  · show T / 576 * 1 ≤ (i 0).val ∧ (i 0).val < T / 576 * 1 + 1
    omega
  · show T / 9 % 8 * 1024 ≤ (i 1).val ∧ (i 1).val < T / 9 % 8 * 1024 + 1024
    omega
  · show T / 72 % 8 * 128 ≤ (i 2).val ∧ (i 2).val < T / 72 % 8 * 128 + 128
    omega

/-- The kernel's result is any array that holds, at every query, head and column, the values weighted by the scores' softmax. -/
theorem result_eq (H : Holds m c R) (G : FVec Ideal S2x8192x1024 .bf16) (N : Fin 2 → Fin 8 → Fin 8192 → ℝ)
    (hG : ∀ (b : Fin 2) (n : Fin 8192) (h : Fin 8) (r : Fin 128), (G (ix3 b n ⟨h.val * 128 + r.val, by omega⟩) : EReal)
      = ∑ k : Fin 8448, Ideal.div (Ideal.exp ((R.score b h n k : EReal) - (N b h n : EReal)))
          (∑ i : Fin 8448, Ideal.exp ((R.score b h n i : EReal) - (N b h n : EReal))) * val m c b h r k) :
    (dats m 0 c).arrAt 5 cfg0.N = G := by
  refine (dats m 0 c).arrAt_eq_of_cover 5 G (fun t ht => ?_) blocks_cover
  refine (flushed5 m c t).trans (block_written _ G t fun j r => ?_)
  have h8 := (flush0_5 t).1 ht
  refine (written H t h8 ⟨t.val / 576, lt_batch t⟩ ⟨t.val / 72 % 8, lt_head t⟩ ⟨t.val / 9 % 8 * 1024 + j.val, lt_query t j⟩ j r rfl rfl rfl
    (N ⟨t.val / 576, lt_batch t⟩ ⟨t.val / 72 % 8, lt_head t⟩ ⟨t.val / 9 % 8 * 1024 + j.val, lt_query t j⟩)).trans ?_
  exact (hG ⟨t.val / 576, lt_batch t⟩ ⟨t.val / 9 % 8 * 1024 + j.val, lt_query t j⟩ ⟨t.val / 72 % 8, lt_head t⟩ r).symm

end Cert.KernelIdeal.Value

end
-- ==== Proof.RefValue.lean ====
module

public import proofs.«01_k».proof.Proof.RefOps
public import proofs.«01_k».proof.Proof.Rows

@[expose] public section

set_option maxRecDepth 16384

noncomputable section

open Idealize.ShloMosaic Idealize.ShloMosaic.TcCoe Idealize.SL.Sem
open Idealize.ShloMosaic.Pipeline (Dat)

namespace Cert.ReferenceIdeal.Value

open Cert.ReferenceIdeal Cert.ReferenceIdeal.Gen

open Cert.KernelIdeal.Value (Rows value scale scale_coe)
open Cert.Softmax

variable (q : FVec Ideal S2x8192x8x192 .f32) (kc : FVec Ideal S2x256x8x192 .f32) (vc : FVec Ideal S2x256x8x128 .f32)
  (kl : FVec Ideal S2x8192x8x192 .f32) (vl : FVec Ideal S2x8192x8x128 .f32) (R : Rows)
  (hq : ∀ b n h d, (q (ix4 b n h d) : EReal) = (R.q b n h d : EReal))
  (hkc : ∀ b n h d, (kc (ix4 b n h d) : EReal) = (R.kc b n h d : EReal))
  (hkl : ∀ b n h d, (kl (ix4 b n h d) : EReal) = (R.kl b n h d : EReal))
include hq hkc hkl

theorem score_eq (b : Fin 2) (h : Fin 8) (n : Fin 8192) (k : Fin 8448) :
    (scores q kc kl (ix4 b h n k) : EReal) = (R.score b h n k : EReal) := by
  rw [scores_at]
  unfold Rows.score
  split
  · rw [EReal.coe_mul, coe_sum, scale_coe]
    refine congrArg (fun x : EReal => x * (scale : EReal)) (Finset.sum_congr rfl fun d _ => ?_)
    rw [EReal.coe_mul, ← hq, ← hkc]
  · rename_i hk
    rw [dif_pos (by omega), EReal.coe_mul, coe_sum, scale_coe]
    refine congrArg (fun x : EReal => x * (scale : EReal)) (Finset.sum_congr rfl fun d _ => ?_)
    rw [EReal.coe_mul, ← hq, ← hkl]

/-- The reference's result: the values weighted by the scores' softmax, a real number off each score. -/
theorem result_at : ∃ N : Fin 2 → Fin 8 → Fin 8192 → ℝ, ∀ (b : Fin 2) (n : Fin 8192) (h : Fin 8) (r : Fin 128),
    (mixed (probs (exps (scores q kc kl))) vc vl (ix3 b n ⟨h.val * 128 + r.val, by omega⟩) : EReal)
      = ∑ k : Fin 8448, Ideal.div (Ideal.exp ((R.score b h n k : EReal) - (N b h n : EReal)))
          (∑ i : Fin 8448, Ideal.exp ((R.score b h n i : EReal) - (N b h n : EReal))) * value vc vl b h r k := by
  have hs : ∀ i : S2x8x8192x8448.Idx, (scores q kc kl i : EReal) = (R.score (i 0) (i 1) (i 2) (i 3).val : EReal) := fun i => by
    have ei : i = ix4 (i 0) (i 1) (i 2) (i 3) := by
      funext a
      fin_cases a <;> rfl
    exact (congrArg (scores q kc kl) ei).trans (score_eq q kc kl R hq hkc hkl (i 0) (i 1) (i 2) (i 3))
  have hM := fun (b : Fin 2) (h : Fin 8) (n : Fin 8192) => largest_real (scores q kc kl) _ hs (ix3 b h n)
  choose N hN using hM
  refine ⟨N, fun b n h r => ?_⟩
  have he : ∀ k : Fin 8448, (exps (scores q kc kl) (ix4 b h n k) : EReal) = Ideal.exp ((R.score b h n k : EReal) - (N b h n : EReal)) := fun k => by
    rw [exps_at, score_eq q kc kl R hq hkc hkl, hN]
  rw [mixed_at]
  refine Finset.sum_congr rfl fun k _ => ?_
  refine (mul_comm _ _).trans ?_
  refine congrArg₂ (fun x y : EReal => x * y) ?_ ?_
  · refine (probs_at _ b h n k).trans ?_
    rw [he k]
    refine congrArg (Ideal.div _) ((zero_add _).trans (Finset.sum_congr rfl fun i _ => he i))
  · unfold value
    split
    · rfl
    · rw [dif_pos (by omega)]

end Cert.ReferenceIdeal.Value

end
-- ==== Proof.Result.lean ====
module

public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Array
public import proofs.«01_k».proof.Proof.RefValue
public import proofs.«01_k».proof.Proof.RefRun
public import Idealize.ShloMosaic.Adequacy
public import Idealize.ShloMosaic.Init
public import Idealize.ShloMosaic.Lib.Claim

@[expose] public section

noncomputable section

namespace Cert.Proof

open Idealize.ShloMosaic Idealize.ShloMosaic.TcCoe Idealize.SL.Sem

/-- Over finite queries and keys the kernel's result is the reference's. -/
theorem result_kernel (m : (ℓ : Loc Cert.KernelIdeal.nD Cert.KernelIdeal.τ Cert.KernelIdeal.sig) → Buf (Elt Ideal) ℓ) (c : Dev Cert.KernelIdeal.nD)
    (q : FVec Ideal Cert.ReferenceIdeal.S2x8192x8x192 .f32) (kc : FVec Ideal Cert.ReferenceIdeal.S2x256x8x192 .f32) (vc : FVec Ideal Cert.ReferenceIdeal.S2x256x8x128 .f32)
    (kl : FVec Ideal Cert.ReferenceIdeal.S2x8192x8x192 .f32) (vl : FVec Ideal Cert.ReferenceIdeal.S2x8192x8x128 .f32)
    (e0 : m (c, Proc.tc.devRef Cert.KernelIdeal.main_arg0) = q) (e1 : m (c, Proc.tc.devRef Cert.KernelIdeal.main_arg1) = kc)
    (e2 : m (c, Proc.tc.devRef Cert.KernelIdeal.main_arg2) = vc) (e3 : m (c, Proc.tc.devRef Cert.KernelIdeal.main_arg3) = kl)
    (e4 : m (c, Proc.tc.devRef Cert.KernelIdeal.main_arg4) = vl)
    (hq : ∀ i, (q i : EReal) = ((show EReal from q i).toReal : EReal)) (hkc : ∀ i, (kc i : EReal) = ((show EReal from kc i).toReal : EReal))
    (hkl : ∀ i, (kl i : EReal) = ((show EReal from kl i).toReal : EReal)) :
    (Cert.KernelIdeal.Gen.dats m 0 c).arrAt 5 Cert.KernelIdeal.cfg0.N = result q kc vc kl vl := by
  let R : Cert.KernelIdeal.Value.Rows :=
    { q := fun b n h d => (show EReal from q (ix4 b n h d)).toReal
      kc := fun b n h d => (show EReal from kc (ix4 b n h d)).toReal
      kl := fun b n h d => (show EReal from kl (ix4 b n h d)).toReal }
  obtain ⟨N, hN⟩ := Cert.ReferenceIdeal.Value.result_at q kc vc kl vl R (fun b n h d => hq _) (fun b n h d => hkc _) (fun b n h d => hkl _)
  refine Cert.KernelIdeal.Value.result_eq (R := R) ⟨fun b n h d => ?_, fun b n h d => ?_, fun b n h d => ?_⟩ (result q kc vc kl vl) N fun b n h r => ?_
  · rw [e0]; exact hq _
  · rw [e1]; exact hkc _
  · rw [e3]; exact hkl _
  · unfold Cert.KernelIdeal.Value.val
    rw [e2, e4]
    exact hN b n h r
end Cert.Proof

end
-- ==== Proof.Pre.lean ====
module

public import proofs.«01_k».proof.Pre_finite_scores
public import proofs.«01_k».proof.Proof.KernelBlock
public import Idealize.ShloMosaic.Lib.ReduceAll
public import Idealize.ShloMosaic.Lib.Affine

@[expose] public section

set_option maxRecDepth 16384

noncomputable section

open Idealize.ShloMosaic Idealize.ShloMosaic.TcCoe Idealize.SL.Sem
open Idealize.ShloMosaic.Pipeline (Dat)

namespace Cert.Pre_finite_scores.Value

open Cert.Pre_finite_scores

/-- The shape relations of the precondition. -/
theorem facts : Cert.Pre_finite_scores.Facts where
  bcast_S_S2x8192x8x192 := by decide
  reducesTo_S2x8192x8x192_S_d0_1_2_3 := by decide
  h_S_ := by decide
  bcast_S_S2x256x8x192 := by decide
  reducesTo_S2x256x8x192_S_d0_1_2_3 := by decide

attribute [local instance] facts

theorem ofBits_inf : Ideal.ofBits FTy.f32 0x7F800000#32 = (⊤ : EReal) := by
  simp [Ideal.ofBits, Ideal.ieee]

theorem real_of_cmp (x : Ideal FTy.f32) (h : FloatOps.cmpf .olt (FloatOps.absf x) (FloatOps.ofBits .f32 0x7F800000#32 : Ideal FTy.f32) = 1#1) :
    (x : EReal) = ((show EReal from x).toReal : EReal) := by
  have h' : Ideal.cmp .olt (max (show EReal from x) (-(show EReal from x))) (⊤ : EReal) = 1#1 := by
    rw [← ofBits_inf]; exact h
  have hlt : max (show EReal from x) (-(show EReal from x)) < ⊤ := by
    by_contra hn
    simp [Ideal.cmp, hn] at h'
  have h1 : (show EReal from x) ≠ ⊤ := ne_of_lt (lt_of_le_of_lt (le_max_left _ _) hlt)
  have h2 : (show EReal from x) ≠ ⊥ := fun hb => by
    rw [hb] at hlt
    simp at hlt
  exact (EReal.coe_toReal h1 h2).symm

theorem finite_of (q : FVec Ideal S2x8192x8x192 .f32) (kc : FVec Ideal S2x256x8x192 .f32) (vc : FVec Ideal S2x256x8x128 .f32) (kl : FVec Ideal S2x8192x8x192 .f32) (vl : FVec Ideal S2x8192x8x128 .f32)
    (h : Cert.Pre_finite_scores.fn (F := Ideal) q kc vc kl vl = fun _ => 1#1) :
    (∀ i, (q i : EReal) = ((show EReal from q i).toReal : EReal)) ∧ (∀ i, (kc i : EReal) = ((show EReal from kc i).toReal : EReal)) ∧ (∀ i, (kl i : EReal) = ((show EReal from kl i).toReal : EReal)) := by
  have h0 := congrFun h (Shape.Idx.first (by decide))
  unfold Cert.Pre_finite_scores.fn at h0
  dsimp only at h0
  obtain ⟨h1, h2⟩ := IntOp.andi_eq_one.1 h0
  obtain ⟨h3, h4⟩ := IntOp.andi_eq_one.1 h1
  exact ⟨fun i => real_of_cmp _ (Host.reduce_andi_all _ _ _ _ _ h3 i), fun i => real_of_cmp _ (Host.reduce_andi_all _ _ _ _ _ h4 i), fun i => real_of_cmp _ (Host.reduce_andi_all _ _ _ _ _ h2 i)⟩

end Cert.Pre_finite_scores.Value

end
-- ==== Proof.ExpertBlock.lean ====
/- What one grid point of the experts' call leaves in its output block: the first block of hidden units starts the sum, the
   others add to it, and the last also multiplies by the gate. -/
module

public import proofs.«01_k».proof.Proof.Gen.ExpertsIdeal.Frame
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ExpertsIdeal.Value

open Cert.ExpertsIdeal Cert.ExpertsIdeal.Gen

/-- The swish of `x`: `x` times its logistic. -/
def swish (x : EReal) : EReal := x * Ideal.logistic x

theorem swish_zero : swish 0 = 0 := zero_mul _

variable (c : Dev nD) (i : grid0.Coords) (arg3 : Memref sig .tc .vmem S1x1x1024x2048 .bf16) (harg3 : arg3.IsWhole) (arg4 : Memref sig .tc .vmem S1x1x1024x1 .f32) (harg4 : arg4.IsWhole) (arg5 : Memref sig .tc .vmem S1x2048x512 .bf16) (harg5 : arg5.IsWhole) (arg6 : Memref sig .tc .vmem S1x2048x512 .bf16) (harg6 : arg6.IsWhole) (arg7 : Memref sig .tc .vmem S1x512x2048 .bf16) (harg7 : arg7.IsWhole) (arg8 : Memref sig .tc .vmem S1x1x1024x2048 .f32) (harg8 : arg8.IsWhole)
  (x0 : FVec Ideal S1x1x1024x2048 .bf16) (x1 : FVec Ideal S1x1x1024x1 .f32) (x2 : FVec Ideal S1x2048x512 .bf16)
  (x3 : FVec Ideal S1x2048x512 .bf16) (x4 : FVec Ideal S1x512x2048 .bf16) (xo : FVec Ideal S1x1x1024x2048 .f32)

/-- Token `r` in hidden unit `k` of a block of hidden units. -/
abbrev unit (r : Fin 1024) (k : Fin 512) : EReal :=
  swish (∑ d : Fin 2048, x0 (ix4 0 0 r d) * x2 (ix3 0 d k)) * (∑ d : Fin 2048, x0 (ix4 0 0 r d) * x3 (ix3 0 d k))

/-- What a block of hidden units gives to column `j` of token `r`. -/
abbrev given (r : Fin 1024) (j : Fin 2048) : EReal := ∑ k : Fin 512, unit x0 x2 x3 r k * x4 (ix3 0 k j)

/-- The first block of hidden units starts the sum. -/
theorem out_A (hc0 : cond0_0 i) (hc1 : ¬cond0_1 i) (hc2 : ¬cond0_2 i) (r : Fin 1024) (j : Fin 2048) :
    out0_A_5 (F := Ideal) c i arg3 harg3 arg4 harg4 arg5 harg5 arg6 harg6 arg7 harg7 arg8 harg8 hc0 hc1 hc2 x0 x1 x2 x3 x4 (ix4 0 0 r j) = given x0 x2 x3 x4 r j := by
  frame_out
  open_payloads
  pointwise [swish, given, unit]

/-- A middle block adds to it. -/
theorem out_B (hc0 : ¬cond0_0 i) (hc1 : cond0_1 i) (hc2 : ¬cond0_2 i) (r : Fin 1024) (j : Fin 2048) :
    out0_B_5 (F := Ideal) c i arg3 harg3 arg4 harg4 arg5 harg5 arg6 harg6 arg7 harg7 arg8 harg8 hc0 hc1 hc2 x0 x1 x2 x3 x4 xo (ix4 0 0 r j) = xo (ix4 0 0 r j) + given x0 x2 x3 x4 r j := by
  frame_out
  open_payloads
  pointwise [swish, given, unit]

/-- The last block adds to it and multiplies by the token's gate. -/
theorem out_C (hc0 : ¬cond0_0 i) (hc1 : cond0_1 i) (hc2 : cond0_2 i) (r : Fin 1024) (j : Fin 2048) :
    out0_C_5 (F := Ideal) c i arg3 harg3 arg4 harg4 arg5 harg5 arg6 harg6 arg7 harg7 arg8 harg8 hc0 hc1 hc2 x0 x1 x2 x3 x4 xo (ix4 0 0 r j) = (xo (ix4 0 0 r j) + given x0 x2 x3 x4 r j) * x1 (ix4 0 0 r 0) := by
  frame_out
  open_payloads
  pointwise [swish, given, unit]

end Cert.ExpertsIdeal.Value

end
-- ==== Proof.ExpertGrid.lean ====
module

public import proofs.«01_k».proof.Proof.Gen.ExpertsIdeal.Frame
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ExpertsIdeal.Value

open Cert.ExpertsIdeal Cert.ExpertsIdeal.Gen

theorem t_lt (t : Fin cfg0.N) : t.val < 96 := lt_of_lt_of_eq t.isLt N_0

/-- The three grid coordinates of point `t`: expert, sample, block of hidden units. -/
theorem coords_at (t : Fin cfg0.N) : (grid0.coords t 0).val = t.val / 6 ∧ (grid0.coords t 1).val = t.val / 3 % 2 ∧ (grid0.coords t 2).val = t.val % 3 := by
  have h0 := Pipeline.Grid.coords_val (G := grid0) t 0 (S := 6) (B := 16) (by decide) rfl
  have h1 := Pipeline.Grid.coords_val (G := grid0) t 1 (S := 3) (B := 2) (by decide) rfl
  have h2 := Pipeline.Grid.coords_val (G := grid0) t 2 (S := 1) (B := 3) (by decide) rfl
  have ht := t_lt t
  refine ⟨h0.trans (by omega), h1, h2.trans (by omega)⟩

/-- The index maps at point `t`. -/
theorem idx_win (t : Fin cfg0.N) : win0_0.index t = ![t.val / 3 % 2, t.val / 6, 0, 0] ∧ win0_1.index t = ![t.val / 3 % 2, t.val / 6, 0, 0]
    ∧ win0_2.index t = ![t.val / 6, 0, t.val % 3] ∧ win0_3.index t = ![t.val / 6, 0, t.val % 3]
    ∧ win0_4.index t = ![t.val / 6, t.val % 3, 0] ∧ win0_5.index t = ![t.val / 3 % 2, t.val / 6, 0, 0] := by
  have ht := t_lt t
  obtain ⟨e0, e1, e2⟩ := coords_at t
  have w (n : ℕ) (h : n < 96) : (BitVec.ofNat 32 n).toNat = n := by
    rw [BitVec.toNat_ofNat]; exact Nat.mod_eq_of_lt (by omega)
  have c0 : cc0_transform_0 (grid0.coords t) = ![t.val / 3 % 2, t.val / 6, 0, 0] := by
    unfold cc0_transform_0; dsimp only; rw [e0, e1, w (t.val / 6) (by omega), w (t.val / 3 % 2) (by omega)]; rfl
  have c1 : cc0_transform_1 (grid0.coords t) = ![t.val / 3 % 2, t.val / 6, 0, 0] := by
    unfold cc0_transform_1; dsimp only; rw [e0, e1, w (t.val / 6) (by omega), w (t.val / 3 % 2) (by omega)]; rfl
  have c2 : cc0_transform_2 (grid0.coords t) = ![t.val / 6, 0, t.val % 3] := by
    unfold cc0_transform_2; dsimp only; rw [e0, e2, w (t.val / 6) (by omega), w (t.val % 3) (by omega)]; rfl
  have c3 : cc0_transform_3 (grid0.coords t) = ![t.val / 6, 0, t.val % 3] := by
    unfold cc0_transform_3; dsimp only; rw [e0, e2, w (t.val / 6) (by omega), w (t.val % 3) (by omega)]; rfl
  have c4 : cc0_transform_4 (grid0.coords t) = ![t.val / 6, t.val % 3, 0] := by
    unfold cc0_transform_4; dsimp only; rw [e0, e2, w (t.val / 6) (by omega), w (t.val % 3) (by omega)]; rfl
  have c5 : cc0_transform_5 (grid0.coords t) = ![t.val / 3 % 2, t.val / 6, 0, 0] := by
    unfold cc0_transform_5; dsimp only; rw [e0, e1, w (t.val / 6) (by omega), w (t.val / 3 % 2) (by omega)]; rfl
  exact ⟨c0, c1, c2, c3, c4, c5⟩

theorem lt_expert (t : Fin cfg0.N) : t.val / 6 < 16 := by have := t_lt t; omega
theorem lt_sample (t : Fin cfg0.N) : t.val / 3 % 2 < 2 := by omega
theorem lt_unit (t : Fin cfg0.N) (k : Fin 512) : t.val % 3 * 512 + k.val < 1536 := by omega

variable (m : (ℓ : Loc nD τ sig) → Buf (Elt Ideal) ℓ)

theorem rd0 (A : (Pipeline.arrRef spec0 0).ty.Contents (Elt Ideal)) (t : Fin cfg0.N) (r : Fin 1024) (d : Fin 2048) :
    ((win0_0.blk t).view.read (Elt Ideal) A : FVec Ideal S1x1x1024x2048 .bf16) (ix4 0 0 r d) = (A : FVec Ideal S2x16x1024x2048 .bf16) (ix4 ⟨t.val / 3 % 2, lt_sample t⟩ ⟨t.val / 6, lt_expert t⟩ r d) := by
  obtain ⟨h0, h1, h2, h3, h4, h5⟩ := idx_win t
  refine congrArg A (a₁ := (win0_0.rect t).emb (ix4 0 0 r d)) ?_
  funext a
  apply Fin.ext
  refine (Pipeline.Window.rect_emb_val win0_0 t _ a).trans ?_
  rw [h0]
  fin_cases a
  · show t.val / 3 % 2 * 1 + 0 = t.val / 3 % 2
    omega
  · show t.val / 6 * 1 + 0 = t.val / 6
    omega
  · show 0 * 1024 + r.val = r.val
    omega
  · show 0 * 2048 + d.val = d.val
    omega

/-- Block 0 of point `t`, at an index. -/
theorem blk0 (c : Dev nD) (t : Fin cfg0.N) (r : Fin 1024) (d : Fin 2048) :
    (iblk m c 0 t : FVec Ideal S1x1x1024x2048 .bf16) (ix4 0 0 r d) = (V m c main_v0 : FVec Ideal S2x16x1024x2048 .bf16) (ix4 ⟨t.val / 3 % 2, lt_sample t⟩ ⟨t.val / 6, lt_expert t⟩ r d) := by
  unfold iblk
  exact rd0 (V m c main_v0) t r d

theorem rd1 (A : (Pipeline.arrRef spec0 1).ty.Contents (Elt Ideal)) (t : Fin cfg0.N) (r : Fin 1024) :
    ((win0_1.blk t).view.read (Elt Ideal) A : FVec Ideal S1x1x1024x1 .f32) (ix4 0 0 r 0) = (A : FVec Ideal S2x16x1024x1 .f32) (ix4 ⟨t.val / 3 % 2, lt_sample t⟩ ⟨t.val / 6, lt_expert t⟩ r 0) := by
  obtain ⟨h0, h1, h2, h3, h4, h5⟩ := idx_win t
  refine congrArg A (a₁ := (win0_1.rect t).emb (ix4 0 0 r 0)) ?_
  funext a
  apply Fin.ext
  refine (Pipeline.Window.rect_emb_val win0_1 t _ a).trans ?_
  rw [h1]
  fin_cases a
  · show t.val / 3 % 2 * 1 + 0 = t.val / 3 % 2
    omega
  · show t.val / 6 * 1 + 0 = t.val / 6
    omega
  · show 0 * 1024 + r.val = r.val
    omega
  · show 0 * 1 + 0 = 0
    omega

/-- Block 1 of point `t`, at an index. -/
theorem blk1 (c : Dev nD) (t : Fin cfg0.N) (r : Fin 1024) :
    (iblk m c 1 t : FVec Ideal S1x1x1024x1 .f32) (ix4 0 0 r 0) = (V m c main_v1 : FVec Ideal S2x16x1024x1 .f32) (ix4 ⟨t.val / 3 % 2, lt_sample t⟩ ⟨t.val / 6, lt_expert t⟩ r 0) := by
  unfold iblk
  exact rd1 (V m c main_v1) t r

theorem rd2 (A : (Pipeline.arrRef spec0 2).ty.Contents (Elt Ideal)) (t : Fin cfg0.N) (d : Fin 2048) (k : Fin 512) :
    ((win0_2.blk t).view.read (Elt Ideal) A : FVec Ideal S1x2048x512 .bf16) (ix3 0 d k) = (A : FVec Ideal S16x2048x1536 .bf16) (ix3 ⟨t.val / 6, lt_expert t⟩ d ⟨t.val % 3 * 512 + k.val, lt_unit t k⟩) := by
  obtain ⟨h0, h1, h2, h3, h4, h5⟩ := idx_win t
  refine congrArg A (a₁ := (win0_2.rect t).emb (ix3 0 d k)) ?_
  funext a
  apply Fin.ext
  refine (Pipeline.Window.rect_emb_val win0_2 t _ a).trans ?_
  rw [h2]
  fin_cases a
  · show t.val / 6 * 1 + 0 = t.val / 6
    omega
  · show 0 * 2048 + d.val = d.val
    omega
  · show t.val % 3 * 512 + k.val = t.val % 3 * 512 + k.val
    omega

/-- Block 2 of point `t`, at an index. -/
theorem blk2 (c : Dev nD) (t : Fin cfg0.N) (d : Fin 2048) (k : Fin 512) :
    (iblk m c 2 t : FVec Ideal S1x2048x512 .bf16) (ix3 0 d k) = (V m c main_v5 : FVec Ideal S16x2048x1536 .bf16) (ix3 ⟨t.val / 6, lt_expert t⟩ d ⟨t.val % 3 * 512 + k.val, lt_unit t k⟩) := by
  unfold iblk
  exact rd2 (V m c main_v5) t d k

theorem rd3 (A : (Pipeline.arrRef spec0 3).ty.Contents (Elt Ideal)) (t : Fin cfg0.N) (d : Fin 2048) (k : Fin 512) :
    ((win0_3.blk t).view.read (Elt Ideal) A : FVec Ideal S1x2048x512 .bf16) (ix3 0 d k) = (A : FVec Ideal S16x2048x1536 .bf16) (ix3 ⟨t.val / 6, lt_expert t⟩ d ⟨t.val % 3 * 512 + k.val, lt_unit t k⟩) := by
  obtain ⟨h0, h1, h2, h3, h4, h5⟩ := idx_win t
  refine congrArg A (a₁ := (win0_3.rect t).emb (ix3 0 d k)) ?_
  funext a
  apply Fin.ext
  refine (Pipeline.Window.rect_emb_val win0_3 t _ a).trans ?_
  rw [h3]
  fin_cases a
  · show t.val / 6 * 1 + 0 = t.val / 6
    omega
  · show 0 * 2048 + d.val = d.val
    omega
  · show t.val % 3 * 512 + k.val = t.val % 3 * 512 + k.val
    omega

/-- Block 3 of point `t`, at an index. -/
theorem blk3 (c : Dev nD) (t : Fin cfg0.N) (d : Fin 2048) (k : Fin 512) :
    (iblk m c 3 t : FVec Ideal S1x2048x512 .bf16) (ix3 0 d k) = (V m c main_v7 : FVec Ideal S16x2048x1536 .bf16) (ix3 ⟨t.val / 6, lt_expert t⟩ d ⟨t.val % 3 * 512 + k.val, lt_unit t k⟩) := by
  unfold iblk
  exact rd3 (V m c main_v7) t d k

theorem rd4 (A : (Pipeline.arrRef spec0 4).ty.Contents (Elt Ideal)) (t : Fin cfg0.N) (k : Fin 512) (j : Fin 2048) :
    ((win0_4.blk t).view.read (Elt Ideal) A : FVec Ideal S1x512x2048 .bf16) (ix3 0 k j) = (A : FVec Ideal S16x1536x2048 .bf16) (ix3 ⟨t.val / 6, lt_expert t⟩ ⟨t.val % 3 * 512 + k.val, lt_unit t k⟩ j) := by
  obtain ⟨h0, h1, h2, h3, h4, h5⟩ := idx_win t
  refine congrArg A (a₁ := (win0_4.rect t).emb (ix3 0 k j)) ?_
  funext a
  apply Fin.ext
  refine (Pipeline.Window.rect_emb_val win0_4 t _ a).trans ?_
  rw [h4]
  fin_cases a
  · show t.val / 6 * 1 + 0 = t.val / 6
    omega
  · show t.val % 3 * 512 + k.val = t.val % 3 * 512 + k.val
    omega
  · show 0 * 2048 + j.val = j.val
    omega

/-- Block 4 of point `t`, at an index. -/
theorem blk4 (c : Dev nD) (t : Fin cfg0.N) (k : Fin 512) (j : Fin 2048) :
    (iblk m c 4 t : FVec Ideal S1x512x2048 .bf16) (ix3 0 k j) = (V m c main_v3 : FVec Ideal S16x1536x2048 .bf16) (ix3 ⟨t.val / 6, lt_expert t⟩ ⟨t.val % 3 * 512 + k.val, lt_unit t k⟩ j) := by
  unfold iblk
  exact rd4 (V m c main_v3) t k j

end Cert.ExpertsIdeal.Value

end
-- ==== Proof.ExpertArgs.lean ====
module

public import proofs.«01_k».proof.Proof.Gen.ExpertsIdeal.Frame
public import Idealize.ShloMosaic.Lib.Pipeline.ValueKit
public import Idealize.ShloMosaic.Lib.Claim
public import Idealize.ShloMosaic.Lib.StableHlo.ReadAt
public import Idealize.ShloMosaic.Lib.Pointwise
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

namespace Cert.ExpertsIdeal.Value

open Cert.ExpertsIdeal Cert.ExpertsIdeal.Gen

theorem sitofp_zero : (FloatOps.sitofp (F := Ideal) FTy.f32 0#32 : EReal) = 0 := by
  show ((((0#32 : BitVec 32).toInt : ℝ)) : EReal) = 0
  simp

/-- The hidden units padded from 1408 to 1536: the weight below 1408, the padding above. -/
theorem pad_in (x : FVec Ideal S16x2048x1408 .f32) (v : FVec Ideal S_ .f32)
    (hp : S16x2048x1408.Pads ![0, 0, 0] ![0, 0, 128] ![0, 0, 0] S16x2048x1536) (hu : 0 < S_.numel) (e : Fin 16) (d : Fin 2048) (k : Fin 1536) :
    pad S16x2048x1536 ![0, 0, 0] ![0, 0, 128] ![0, 0, 0] x v hp hu (ix3 e d k)
      = if hk : k.val < 1408 then x (ix3 e d ⟨k.val, hk⟩) else v (Shape.Idx.first hu) := by
  split
  · next hk =>
    refine pad_apply_of_inside _ _ _ x v hp hu _ (ix3 e d ⟨k.val, hk⟩) fun a => ?_
    fin_cases a <;> simp [ix3]
  · next hk =>
    refine pad_apply_of_not_inside _ _ _ x v hp hu _ 2 fun hh => hk ?_
    simpa [ix3] using hh.2.2

/-- The same on the way out. -/
theorem pad_out (x : FVec Ideal S16x1408x2048 .f32) (v : FVec Ideal S_ .f32)
    (hp : S16x1408x2048.Pads ![0, 0, 0] ![0, 128, 0] ![0, 0, 0] S16x1536x2048) (hu : 0 < S_.numel) (e : Fin 16) (k : Fin 1536) (j : Fin 2048) :
    pad S16x1536x2048 ![0, 0, 0] ![0, 128, 0] ![0, 0, 0] x v hp hu (ix3 e k j)
      = if hk : k.val < 1408 then x (ix3 e ⟨k.val, hk⟩ j) else v (Shape.Idx.first hu) := by
  split
  · next hk =>
    refine pad_apply_of_inside _ _ _ x v hp hu _ (ix3 e ⟨k.val, hk⟩ j) fun a => ?_
    fin_cases a <;> simp [ix3]
  · next hk =>
    refine pad_apply_of_not_inside _ _ _ x v hp hu _ 1 fun hh => hk ?_
    simpa [ix3] using hh.2.2

variable (m : (ℓ : Loc nD τ sig) → Buf (Elt Ideal) ℓ)

/-- A token's activations. -/
abbrev tok (c : Dev nD) (s : Fin 2) (e : Fin 16) (r : Fin 1024) (d : Fin 2048) : EReal := (m (c, Proc.tc.devRef main_arg0) : FVec Ideal S2x16x1024x2048 .f32) (ix4 s e r d)
/-- A token's gate. -/
abbrev gate (c : Dev nD) (s : Fin 2) (e : Fin 16) (r : Fin 1024) : EReal := (m (c, Proc.tc.devRef main_arg1) : FVec Ideal S2x16x1024 .f32) (ix3 s e r)
/-- The gate weights, 0 from unit 1408 on. -/
abbrev wgate (c : Dev nD) (e : Fin 16) (d : Fin 2048) (k : ℕ) : EReal := if hk : k < 1408 then (m (c, Proc.tc.devRef main_arg2) : FVec Ideal S16x2048x1408 .f32) (ix3 e d ⟨k, hk⟩) else 0
/-- The up weights, 0 from unit 1408 on. -/
abbrev wup (c : Dev nD) (e : Fin 16) (d : Fin 2048) (k : ℕ) : EReal := if hk : k < 1408 then (m (c, Proc.tc.devRef main_arg3) : FVec Ideal S16x2048x1408 .f32) (ix3 e d ⟨k, hk⟩) else 0
/-- The down weights, 0 from unit 1408 on. -/
abbrev wdown (c : Dev nD) (e : Fin 16) (k : ℕ) (j : Fin 2048) : EReal := if hk : k < 1408 then (m (c, Proc.tc.devRef main_arg4) : FVec Ideal S16x1408x2048 .f32) (ix3 e ⟨k, hk⟩ j) else 0

theorem tok_at (c : Dev nD) (s : Fin 2) (e : Fin 16) (r : Fin 1024) (d : Fin 2048) :
    (V m c main_v0 : FVec Ideal S2x16x1024x2048 .bf16) (ix4 s e r d) = tok m c s e r d := by
  unfold V
  unfold hostOps0 hostOps0_1 hostOps0_2 hostOps0_3 hostOps0_4 hostOps0_5 hostOps0_6
  simp only [List.flatten_cons, List.flatten_nil, List.cons_append, List.nil_append, List.append_nil]
  entry_read
  pointwise

theorem gate_at (c : Dev nD) (s : Fin 2) (e : Fin 16) (r : Fin 1024) :
    (V m c main_v1 : FVec Ideal S2x16x1024x1 .f32) (ix4 s e r 0) = gate m c s e r := by
  unfold V
  unfold hostOps0 hostOps0_1 hostOps0_2 hostOps0_3 hostOps0_4 hostOps0_5 hostOps0_6
  simp only [List.flatten_cons, List.flatten_nil, List.cons_append, List.nil_append, List.append_nil]
  entry_read
  pointwise

theorem wgate_at (c : Dev nD) (e : Fin 16) (d : Fin 2048) (k : Fin 1536) :
    (V m c main_v5 : FVec Ideal S16x2048x1536 .bf16) (ix3 e d k) = wgate m c e d k := by
  unfold V
  unfold hostOps0 hostOps0_1 hostOps0_2 hostOps0_3 hostOps0_4 hostOps0_5 hostOps0_6
  simp only [List.flatten_cons, List.flatten_nil, List.cons_append, List.nil_append, List.append_nil]
  entry_read
  pointwise
  simp -implicitDefEqProofs only [StableHlo.TRef.toBuf, StableHlo.TRef.ofBuf, cast_eq]
  rw [pad_in]
  split
  · rfl
  · pointwise
    exact sitofp_zero

theorem wup_at (c : Dev nD) (e : Fin 16) (d : Fin 2048) (k : Fin 1536) :
    (V m c main_v7 : FVec Ideal S16x2048x1536 .bf16) (ix3 e d k) = wup m c e d k := by
  unfold V
  unfold hostOps0 hostOps0_1 hostOps0_2 hostOps0_3 hostOps0_4 hostOps0_5 hostOps0_6
  simp only [List.flatten_cons, List.flatten_nil, List.cons_append, List.nil_append, List.append_nil]
  entry_read
  pointwise
  simp -implicitDefEqProofs only [StableHlo.TRef.toBuf, StableHlo.TRef.ofBuf, cast_eq]
  rw [pad_in]
  split
  · rfl
  · pointwise
    exact sitofp_zero

theorem wdown_at (c : Dev nD) (e : Fin 16) (k : Fin 1536) (j : Fin 2048) :
    (V m c main_v3 : FVec Ideal S16x1536x2048 .bf16) (ix3 e k j) = wdown m c e k j := by
  unfold V
  unfold hostOps0 hostOps0_1 hostOps0_2 hostOps0_3 hostOps0_4 hostOps0_5 hostOps0_6
  simp only [List.flatten_cons, List.flatten_nil, List.cons_append, List.nil_append, List.append_nil]
  entry_read
  pointwise
  simp -implicitDefEqProofs only [StableHlo.TRef.toBuf, StableHlo.TRef.ofBuf, cast_eq]
  rw [pad_out]
  split
  · rfl
  · pointwise
    exact sitofp_zero

end Cert.ExpertsIdeal.Value

end
-- ==== Proof.ExpertSum.lean ====
/- The experts' call: the three blocks of hidden units of an expert's tokens add up, and the blocks written back make the array. -/
module

public import proofs.«01_k».proof.Proof.ExpertBlock
public import proofs.«01_k».proof.Proof.ExpertGrid
public import proofs.«01_k».proof.Proof.ExpertArgs
public import proofs.«01_k».proof.Proof.Gen.ExpertsIdeal.Value

@[expose] public section

set_option maxRecDepth 16384

noncomputable section

open Idealize.ShloMosaic Idealize.ShloMosaic.TcCoe Idealize.SL.Sem
open Idealize.ShloMosaic.Pipeline (Dat)

namespace Cert.ExpertsIdeal.Value

open Cert.ExpertsIdeal Cert.ExpertsIdeal.Gen

variable (m : (ℓ : Loc nD τ sig) → Buf (Elt Ideal) ℓ) (c : Dev nD)

/-- What hidden unit `k` gives to column `j` of token `r`; from unit 1408 on nothing. -/
def term (s : Fin 2) (e : Fin 16) (r : Fin 1024) (j : Fin 2048) (k : ℕ) : EReal :=
  swish (∑ d : Fin 2048, tok m c s e r d * wgate m c e d k) * (∑ d : Fin 2048, tok m c s e r d * wup m c e d k) * wdown m c e k j

theorem term_of_lt (s : Fin 2) (e : Fin 16) (r : Fin 1024) (j : Fin 2048) (k : Fin 1408) : term m c s e r j k.val
    = swish (∑ d : Fin 2048, tok m c s e r d * (m (c, Proc.tc.devRef main_arg2) : FVec Ideal S16x2048x1408 .f32) (ix3 e d k))
      * (∑ d : Fin 2048, tok m c s e r d * (m (c, Proc.tc.devRef main_arg3) : FVec Ideal S16x2048x1408 .f32) (ix3 e d k))
      * (m (c, Proc.tc.devRef main_arg4) : FVec Ideal S16x1408x2048 .f32) (ix3 e k j) := by
  have hk : k.val < 1408 := k.isLt
  unfold term wgate wup wdown
  simp only [dif_pos hk, Fin.eta]

theorem term_pad (s : Fin 2) (e : Fin 16) (r : Fin 1024) (j : Fin 2048) (k : ℕ) (hk : 1408 ≤ k) : term m c s e r j k = 0 := by
  unfold term wdown
  rw [dif_neg (Nat.not_lt.2 hk), mul_zero]

/-- Three blocks of 512 units, of which those from 1408 on are 0, are the sum over 1408 units. -/
theorem sum_blocks (F : ℕ → EReal) (hF : ∀ k, 1408 ≤ k → F k = 0) :
    ∑ k : Fin 512, F (0 * 512 + k.val) + ∑ k : Fin 512, F (1 * 512 + k.val) + ∑ k : Fin 512, F (2 * 512 + k.val) = ∑ k : Fin 1408, F k.val := by
  rw [Fin.sum_univ_eq_sum_range (fun k => F (0 * 512 + k)) 512, Fin.sum_univ_eq_sum_range (fun k => F (1 * 512 + k)) 512,
    Fin.sum_univ_eq_sum_range (fun k => F (2 * 512 + k)) 512, Fin.sum_univ_eq_sum_range F 1408]
  have e1 := Finset.sum_range_add F 512 512
  have e2 := Finset.sum_range_add F (512 + 512) 512
  have e3 := Finset.sum_range_add F 1408 128
  have z : ∑ x ∈ Finset.range 128, F (1408 + x) = 0 := Finset.sum_eq_zero fun x _ => hF _ (Nat.le_add_right _ _)
  rw [z, add_zero] at e3
  rw [← e3, show 1408 + 128 = 512 + 512 + 512 from rfl, e2, e1]
  simp only [Nat.zero_mul, Nat.zero_add, Nat.one_mul, show 2 * 512 = 512 + 512 from rfl]

/-- What a block of units gives, when its windows hold the arrays' entries from unit `q` on. -/
theorem given_of (x0 : FVec Ideal S1x1x1024x2048 .bf16) (x2 x3 : FVec Ideal S1x2048x512 .bf16) (x4 : FVec Ideal S1x512x2048 .bf16) (s : Fin 2) (e : Fin 16) (q : ℕ) (r : Fin 1024) (j : Fin 2048)
    (e0 : ∀ d, (x0 (ix4 0 0 r d) : EReal) = tok m c s e r d) (e2 : ∀ d (k : Fin 512), (x2 (ix3 0 d k) : EReal) = wgate m c e d (q + k.val))
    (e3 : ∀ d (k : Fin 512), (x3 (ix3 0 d k) : EReal) = wup m c e d (q + k.val)) (e4 : ∀ k : Fin 512, (x4 (ix3 0 k j) : EReal) = wdown m c e (q + k.val) j) :
    given x0 x2 x3 x4 r j = ∑ k : Fin 512, term m c s e r j (q + k.val) := by
  unfold given unit term
  refine Finset.sum_congr rfl fun k _ => ?_
  rw [e4]
  congr 1
  congr 1
  · congr 1
    exact Finset.sum_congr rfl fun d _ => by rw [e0, e2]
  · exact Finset.sum_congr rfl fun d _ => by rw [e0, e3]

/-- What the block of units of point `t` gives. -/
theorem given_at (t : Fin cfg0.N) (s : Fin 2) (e : Fin 16) (hs : t.val / 3 % 2 = s.val) (he : t.val / 6 = e.val) (f : ℕ) (hf : t.val % 3 = f) (r : Fin 1024) (j : Fin 2048) :
    given (iblk m c 0 t) (iblk m c 2 t) (iblk m c 3 t) (iblk m c 4 t) r j = ∑ k : Fin 512, term m c s e r j (f * 512 + k.val) := by
  have es : s = ⟨t.val / 3 % 2, lt_sample t⟩ := Fin.ext hs.symm
  have ee : e = ⟨t.val / 6, lt_expert t⟩ := Fin.ext he.symm
  rw [es, ee, ← hf]
  exact given_of m c _ _ _ _ _ _ _ r j (fun d => (blk0 m c t r d).trans (tok_at m c _ _ r d))
    (fun d k => (blk2 m c t d k).trans (wgate_at m c _ d ⟨_, lt_unit t k⟩))
    (fun d k => (blk3 m c t d k).trans (wup_at m c _ d ⟨_, lt_unit t k⟩))
    (fun k => (blk4 m c t k j).trans (wdown_at m c _ ⟨_, lt_unit t k⟩ j))

/-- The output block after position `n`. -/
@[irreducible] def held (n : ℕ) (hn : n < cfg0.N) : FVec Ideal S1x1x1024x2048 .f32 := outsAt0 m c n hn

theorem held_A (t : Fin cfg0.N) (h0 : t.val % 3 = 0) (r : Fin 1024) (j : Fin 2048) :
    held m c t.val t.isLt (ix4 0 0 r j) = given (iblk m c 0 t) (iblk m c 2 t) (iblk m c 3 t) (iblk m c 4 t) r j := by
  unfold held
  rw [outsAt0_A m c t h0 (by omega) (by omega)]
  exact out_A c _ _ _ _ _ _ _ _ _ _ _ _ _ (iblk m c 0 t) (iblk m c 1 t) (iblk m c 2 t) (iblk m c 3 t) (iblk m c 4 t) _ _ _ r j

theorem held_B (t : Fin cfg0.N) (h1 : t.val % 3 = 1) (p : ℕ) (hp : p < cfg0.N) (e : t.val - 1 = p) (r : Fin 1024) (j : Fin 2048) :
    held m c t.val t.isLt (ix4 0 0 r j) = held m c p hp (ix4 0 0 r j) + given (iblk m c 0 t) (iblk m c 2 t) (iblk m c 3 t) (iblk m c 4 t) r j := by
  subst e
  unfold held
  rw [outsAt0_B m c t (by omega) (by omega) (by omega)]
  exact out_B c _ _ _ _ _ _ _ _ _ _ _ _ _ (iblk m c 0 t) (iblk m c 1 t) (iblk m c 2 t) (iblk m c 3 t) (iblk m c 4 t) _ _ _ _ r j

theorem held_C (t : Fin cfg0.N) (h2 : t.val % 3 = 2) (p : ℕ) (hp : p < cfg0.N) (e : t.val - 1 = p) (r : Fin 1024) (j : Fin 2048) :
    held m c t.val t.isLt (ix4 0 0 r j) = (held m c p hp (ix4 0 0 r j) + given (iblk m c 0 t) (iblk m c 2 t) (iblk m c 3 t) (iblk m c 4 t) r j)
      * (iblk m c 1 t : FVec Ideal S1x1x1024x1 .f32) (ix4 0 0 r 0) := by
  subst e
  unfold held
  rw [outsAt0_C m c t (by omega) (by omega) h2]
  exact out_C c _ _ _ _ _ _ _ _ _ _ _ _ _ (iblk m c 0 t) (iblk m c 1 t) (iblk m c 2 t) (iblk m c 3 t) (iblk m c 4 t) _ _ _ _ r j

/-- What the last point of an expert's tokens leaves: the sum over all hidden units, times the gate. -/
theorem held_last (t : Fin cfg0.N) (h2 : t.val % 3 = 2) (s : Fin 2) (e : Fin 16) (hs : t.val / 3 % 2 = s.val) (he : t.val / 6 = e.val) (r : Fin 1024) (j : Fin 2048) :
    held m c t.val t.isLt (ix4 0 0 r j) = (∑ k : Fin 1408, term m c s e r j k.val) * gate m c s e r := by
  have ht := t.isLt
  have hg : (iblk m c 1 t : FVec Ideal S1x1x1024x1 .f32) (ix4 0 0 r 0) = gate m c s e r := by
    obtain ⟨s, hs'⟩ := s
    obtain ⟨e, he'⟩ := e
    subst hs
    subst he
    exact (blk1 m c t r).trans (gate_at m c _ _ r)
  have h1' : t.val - 1 < cfg0.N := by omega
  have h0' : t.val - 2 < cfg0.N := by omega
  rw [held_C m c t h2 (t.val - 1) h1' rfl r j, hg, given_at m c t s e hs he 2 h2 r j]
  have b1 := held_B m c ⟨t.val - 1, h1'⟩ (by show (t.val - 1) % 3 = 1; omega) (t.val - 2) h0' (by show t.val - 1 - 1 = t.val - 2; omega) r j
  rw [given_at m c ⟨t.val - 1, h1'⟩ s e (by show (t.val - 1) / 3 % 2 = _; omega) (by show (t.val - 1) / 6 = _; omega) 1 (by show (t.val - 1) % 3 = 1; omega) r j] at b1
  have b0 := held_A m c ⟨t.val - 2, h0'⟩ (by show (t.val - 2) % 3 = 0; omega) r j
  rw [given_at m c ⟨t.val - 2, h0'⟩ s e (by show (t.val - 2) / 3 % 2 = _; omega) (by show (t.val - 2) / 6 = _; omega) 0 (by show (t.val - 2) % 3 = 0; omega) r j] at b0
  rw [show held m c (t.val - 1) h1' (ix4 0 0 r j) = _ from b1, show held m c (t.val - 2) h0' (ix4 0 0 r j) = _ from b0]
  rw [sum_blocks (term m c s e r j) (fun k hk => term_pad m c s e r j k hk)]

/-- A block of the result, written back. -/
theorem block_written (X : FVec Ideal S1x1x1024x2048 .f32) (G : FVec Ideal S2x16x1024x2048 .f32) (t : Fin cfg0.N)
    (hX : ∀ (r : Fin 1024) (j : Fin 2048), X (ix4 0 0 r j) = G (ix4 ⟨t.val / 3 % 2, lt_sample t⟩ ⟨t.val / 6, lt_expert t⟩ r j)) :
    (cfg0.win 5).cut (grid0.coords t) X = ((cfg0.win 5).blk t).view.read (Elt Ideal) G := by
  obtain ⟨_, _, _, _, _, h5⟩ := idx_win t
  have key : ∀ y : S1x1x1024x2048.Idx, X y = G ((win0_5.rect t).emb y) := fun y => by
    have ey : y = ix4 0 0 (y 2) (y 3) := by
      funext a
      apply Fin.ext
      fin_cases a
      · exact Nat.lt_one_iff.1 (y 0).isLt
      · exact Nat.lt_one_iff.1 (y 1).isLt
      · rfl
      · rfl
    rw [ey]
    refine (hX _ _).trans (congrArg G ?_)
    funext a
    apply Fin.ext
    refine Eq.trans ?_ (Pipeline.Window.rect_emb_val win0_5 t _ a).symm
    rw [h5]
    fin_cases a
    · show t.val / 3 % 2 = t.val / 3 % 2 * 1 + 0
      omega
    · show t.val / 6 = t.val / 6 * 1 + 0
      omega
    · show (y 2).val = 0 * 1024 + (y 2).val
      omega
    · show (y 3).val = 0 * 2048 + (y 3).val
      omega
  exact funext fun y => key y

/-- The blocks written back cover the result. -/
theorem blocks_cover (i : S2x16x1024x2048.Idx) : ∃ t : Fin cfg0.N, (cfg0.win 5).flush t = true ∧ i ∈ ((cfg0.win 5).blk t).view.set := by
  have h0 : (i 0).val < 2 := (i 0).isLt
  have h1 : (i 1).val < 16 := (i 1).isLt
  have h2 : (i 2).val < 1024 := (i 2).isLt
  have h3 : (i 3).val < 2048 := (i 3).isLt
  have hlt : ((i 1).val * 2 + (i 0).val) * 3 + 2 < cfg0.N := by
    rw [show cfg0.N = 96 from N_0]; omega
  obtain ⟨T, hT⟩ : ∃ T, T = ((i 1).val * 2 + (i 0).val) * 3 + 2 := ⟨_, rfl⟩
  rw [← hT] at hlt
  have e0 : T / 3 % 2 = (i 0).val := by omega
  have e1 : T / 6 = (i 1).val := by omega
  refine ⟨⟨T, hlt⟩, (flush0_5 _).2 (by show T % 3 = 2; omega), ?_⟩
  obtain ⟨_, _, _, _, _, h5⟩ := idx_win ⟨T, hlt⟩
  refine (Pipeline.Window.emb_mem_blk_iff win0_5 ⟨T, hlt⟩ i).2 fun a => ?_
  rw [h5]
  fin_cases a
  · show T / 3 % 2 * 1 ≤ (i 0).val ∧ (i 0).val < T / 3 % 2 * 1 + 1
    omega
  · show T / 6 * 1 ≤ (i 1).val ∧ (i 1).val < T / 6 * 1 + 1
    omega
  · show 0 * 1024 ≤ (i 2).val ∧ (i 2).val < 0 * 1024 + 1024
    omega
  · show 0 * 2048 ≤ (i 3).val ∧ (i 3).val < 0 * 2048 + 2048
    omega

/-- The call's result is any array that holds, at every token and column, the sum over the hidden units times the gate. -/
theorem result_eq (G : FVec Ideal S2x16x1024x2048 .f32)
    (hG : ∀ (s : Fin 2) (e : Fin 16) (r : Fin 1024) (j : Fin 2048), (G (ix4 s e r j) : EReal) = (∑ k : Fin 1408, term m c s e r j k.val) * gate m c s e r) :
    (dats m 0 c).arrAt 5 cfg0.N = G := by
  refine (dats m 0 c).arrAt_eq_of_cover 5 G (fun t ht => ?_) blocks_cover
  have h2 := (flush0_5 t).1 ht
  refine (flushed5 m c t).trans (block_written _ G t fun r j => ?_)
  have h := held_last m c t h2 ⟨t.val / 3 % 2, lt_sample t⟩ ⟨t.val / 6, lt_expert t⟩ rfl rfl r j
  unfold held at h
  exact h.trans (hG _ _ r j).symm

end Cert.ExpertsIdeal.Value

end
-- ==== Proof.ExpertRef.lean ====
module

public import proofs.«01_k».proof.Proof.ExpertBlock
public import proofs.«01_k».proof.Proof.Gen.ExpertsReferenceIdeal
public import proofs.«01_k».proof.Proof.Gen.ExpertsReferenceIdeal.Run
public import Idealize.ShloMosaic.Lib.Pipeline.ReadBack
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ExpertsReferenceIdeal.Value

open Cert.ExpertsReferenceIdeal Cert.ExpertsReferenceIdeal.Gen

open Cert.ExpertsIdeal.Value (swish)

/-- The experts' rows over a block of weights. -/
def into (x : FVec Ideal S2x16x1024x2048 .f32) (w : FVec Ideal S16x2048x1408 .f32) : FVec Ideal S2x16x1024x1408 .f32 :=
  transpose S2x16x1024x1408 [2, 0, 3, 1] (Host.dotGeneral dot_S16x2048x1408_S2x16x1024x2048_S16x1408x2x1024_1_3_2_02_0_1 none w x) transposes_S16x1408x2x1024_S2x16x1024x1408_2_0_3_1

/-- The hidden units: the swish of the gate rows times the up rows. -/
def units (g u : FVec Ideal S2x16x1024x1408 .f32) : FVec Ideal S2x16x1024x1408 .f32 :=
  mulf (mulf g (Host.divf (broadcastInDim S2x16x1024x1408 ![] bcast_S_S2x16x1024x1408 (constant S_ .f32 0x3F800000#32)) (addf (broadcastInDim S2x16x1024x1408 ![] bcast_S_S2x16x1024x1408 (constant S_ .f32 0x3F800000#32)) (Host.exp (Host.negf g))))) u

/-- The hidden units through the down weights, times the gate. -/
def gated (h : FVec Ideal S2x16x1024x1408 .f32) (w : FVec Ideal S16x1408x2048 .f32) (a : FVec Ideal S2x16x1024 .f32) : FVec Ideal S2x16x1024x2048 .f32 :=
  mulf (transpose S2x16x1024x2048 [2, 0, 3, 1] (Host.dotGeneral dot_S16x1408x2048_S2x16x1024x1408_S16x2048x2x1024_1_3_2_02_0_1 none w h) transposes_S16x2048x2x1024_S2x16x1024x2048_2_0_3_1)
    (broadcastInDim S2x16x1024x2048 ![0, 1, 2, 3] bcast_S2x16x1024x1_S2x16x1024x2048_0_1_2_3 (broadcastInDim S2x16x1024x1 ![0, 1, 2] bcast_S2x16x1024_S2x16x1024x1_0_1_2 a))

theorem into_at (x : FVec Ideal S2x16x1024x2048 .f32) (w : FVec Ideal S16x2048x1408 .f32) (s : Fin 2) (e : Fin 16) (r : Fin 1024) (k : Fin 1408) :
    (into x w (ix4 s e r k) : EReal) = ∑ d : Fin 2048, w (ix3 e d k) * x (ix4 s e r d) := by
  unfold into
  pointwise

theorem units_at (g u : FVec Ideal S2x16x1024x1408 .f32) (s : Fin 2) (e : Fin 16) (r : Fin 1024) (k : Fin 1408) :
    (units g u (ix4 s e r k) : EReal) = swish (g (ix4 s e r k)) * u (ix4 s e r k) := by
  unfold units
  pointwise [swish, Ideal.logistic]

theorem gated_at (h : FVec Ideal S2x16x1024x1408 .f32) (w : FVec Ideal S16x1408x2048 .f32) (a : FVec Ideal S2x16x1024 .f32) (s : Fin 2) (e : Fin 16) (r : Fin 1024) (j : Fin 2048) :
    (gated h w a (ix4 s e r j) : EReal) = (∑ k : Fin 1408, w (ix3 e k j) * h (ix4 s e r k)) * a (ix3 s e r) := by
  unfold gated
  pointwise

/-- The reference's result over given arguments. -/
def result (x : FVec Ideal S2x16x1024x2048 .f32) (a : FVec Ideal S2x16x1024 .f32) (wg wu : FVec Ideal S16x2048x1408 .f32) (wd : FVec Ideal S16x1408x2048 .f32) :
    FVec Ideal S2x16x1024x2048 .f32 := gated (units (into x wg) (into x wu)) wd a

/-- The reference's result, at an index. -/
theorem result_at (x : FVec Ideal S2x16x1024x2048 .f32) (a : FVec Ideal S2x16x1024 .f32) (wg wu : FVec Ideal S16x2048x1408 .f32) (wd : FVec Ideal S16x1408x2048 .f32)
    (s : Fin 2) (e : Fin 16) (r : Fin 1024) (j : Fin 2048) :
    (result x a wg wu wd (ix4 s e r j) : EReal)
      = (∑ k : Fin 1408, swish (∑ d : Fin 2048, x (ix4 s e r d) * wg (ix3 e d k)) * (∑ d : Fin 2048, x (ix4 s e r d) * wu (ix3 e d k)) * wd (ix3 e k j)) * a (ix3 s e r) := by
  unfold result
  rw [gated_at]
  congr 1
  refine Finset.sum_congr rfl fun k _ => ?_
  rw [units_at, into_at, into_at, mul_comm]
  congr 1
  congr 1
  · congr 1
    exact Finset.sum_congr rfl fun d _ => mul_comm _ _
  · exact Finset.sum_congr rfl fun d _ => mul_comm _ _

/-- The reference runs to its result. -/
theorem run_result (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v10) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  unfold result gated units into
  exact run (F := Ideal) m g

end Cert.ExpertsReferenceIdeal.Value

end
-- ==== Proof.InProjBlock.lean ====
/- What one grid point of the input projection leaves: the modulated rows of its block of tokens, computed at the first
   block of columns and kept, and their product with the point's block of the weights. -/
module

public import proofs.«01_k».proof.Proof.Gen.InProjIdeal.Frame
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.InProjIdeal.Value

open Cert.InProjIdeal Cert.InProjIdeal.Gen

/-- The mean of a row. -/
def mean (f : Fin 2048 → EReal) : EReal := Ideal.div (∑ d : Fin 2048, f d) (Ideal.ofBits .f32 0x45000000#32)

/-- A row normed by its mean and variance, times one plus the scale, plus the shift. -/
def modulated (f t s : Fin 2048 → EReal) (d : Fin 2048) : EReal :=
  (f d - mean f) * Ideal.rsqrt (mean (fun d => (f d - mean f) * (f d - mean f)) + Ideal.ofBits .f32 0x358637BD#32)
    * (Ideal.ofBits .f32 0x3F800000#32 + s d) + t d

variable (c : Dev nD) (i : grid0.Coords) (arg2 : Memref sig .tc .vmem S512x2048 .f32) (harg2 : arg2.IsWhole) (arg3 : Memref sig .tc .vmem S1x1x2048 .f32) (harg3 : arg3.IsWhole) (arg4 : Memref sig .tc .vmem S1x1x2048 .f32) (harg4 : arg4.IsWhole) (arg5 : Memref sig .tc .vmem S2048x512 .bf16) (harg5 : arg5.IsWhole) (arg6 : Memref sig .tc .vmem S512x512 .bf16) (harg6 : arg6.IsWhole) (arg7 : Memref sig .tc .vmem S512x2048 .bf16) (harg7 : arg7.IsWhole)
  (x0 : FVec Ideal S512x2048 .f32) (x1 x2 : FVec Ideal S1x1x2048 .f32) (x3 : FVec Ideal S2048x512 .bf16) (xs : FVec Ideal S512x2048 .bf16)

/-- Row `r` of a block, normed and modulated. -/
abbrev row (r : Fin 512) (d : Fin 2048) : EReal :=
  modulated (fun d => x0 (ix2 r d)) (fun d => x1 (ix3 0 0 d)) (fun d => x2 (ix3 0 0 d)) d

/-- The first block of columns keeps the modulated rows. -/
theorem kept_A (hc0 : cond0_0 i) (r : Fin 512) (d : Fin 2048) :
    sout0_A_0 (F := Ideal) c i arg2 harg2 arg3 harg3 arg4 harg4 arg5 harg5 arg6 harg6 arg7 harg7 hc0 x0 x1 x2 x3 (ix2 r d) = row x0 x1 x2 r d := by
  frame_out
  open_payloads
  pointwise [row, modulated, mean]

/-- And gives their product with its block of the weights. -/
theorem out_A (hc0 : cond0_0 i) (r : Fin 512) (j : Fin 512) :
    out0_A_4 (F := Ideal) c i arg2 harg2 arg3 harg3 arg4 harg4 arg5 harg5 arg6 harg6 arg7 harg7 hc0 x0 x1 x2 x3 (ix2 r j) = ∑ d : Fin 2048, row x0 x1 x2 r d * x3 (ix2 d j) := by
  frame_out
  open_payloads
  pointwise [row, modulated, mean]

/-- A later block of columns takes the rows that are kept. -/
theorem out_B (hc0 : ¬cond0_0 i) (r : Fin 512) (j : Fin 512) :
    out0_B_4 (F := Ideal) c i arg2 harg2 arg3 harg3 arg4 harg4 arg5 harg5 arg6 harg6 arg7 harg7 hc0 x0 x1 x2 x3 xs (ix2 r j) = ∑ d : Fin 2048, xs (ix2 r d) * x3 (ix2 d j) := by
  frame_out
  open_payloads
  pointwise

/-- It leaves them as they are. -/
theorem kept_B (hc0 : ¬cond0_0 i) (r : Fin 512) (d : Fin 2048) :
    sout0_B_0 (F := Ideal) c i arg2 harg2 arg3 harg3 arg4 harg4 arg5 harg5 arg6 harg6 arg7 harg7 hc0 x0 x1 x2 x3 xs (ix2 r d) = xs (ix2 r d) := rfl

end Cert.InProjIdeal.Value

end
-- ==== Proof.InProjGrid.lean ====
/- The grid of the input projection: which block of each array a point has. -/
module

public import proofs.«01_k».proof.Proof.Gen.InProjIdeal.Frame
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InProjIdeal.Value

open Cert.InProjIdeal Cert.InProjIdeal.Gen

theorem t_lt (t : Fin cfg0.N) : t.val < 1184 := lt_of_lt_of_eq t.isLt N_0

/-- The two grid coordinates of point `t`: block of tokens, block of columns. -/
theorem coords_at (t : Fin cfg0.N) : (grid0.coords t 0).val = t.val / 37 ∧ (grid0.coords t 1).val = t.val % 37 := by
  have h0 := Pipeline.Grid.coords_val (G := grid0) t 0 (S := 37) (B := 32) (by decide) rfl
  have h1 := Pipeline.Grid.coords_val (G := grid0) t 1 (S := 1) (B := 37) (by decide) rfl
  have ht := t_lt t
  refine ⟨h0.trans (by omega), h1.trans (by omega)⟩

theorem sample_1 (i : grid0.Coords) (n : Fin 32) (h : (i 0).val = n.val) : cc0_transform_1 i = ![n.val / 16, 0, 0] := by
  unfold cc0_transform_1
  dsimp only
  rw [h]
  fin_cases n <;> rfl

theorem sample_2 (i : grid0.Coords) (n : Fin 32) (h : (i 0).val = n.val) : cc0_transform_2 i = ![n.val / 16, 0, 0] := by
  unfold cc0_transform_2
  dsimp only
  rw [h]
  fin_cases n <;> rfl

/-- The index maps at point `t`. -/
theorem idx_win (t : Fin cfg0.N) : win0_0.index t = ![t.val / 37, 0] ∧ win0_1.index t = ![t.val / 37 / 16, 0, 0]
    ∧ win0_2.index t = ![t.val / 37 / 16, 0, 0] ∧ win0_3.index t = ![0, t.val % 37] ∧ win0_4.index t = ![t.val / 37, t.val % 37] := by
  have ht := t_lt t
  obtain ⟨e0, e1⟩ := coords_at t
  have w (n : ℕ) (h : n < 1184) : (BitVec.ofNat 32 n).toNat = n := by
    rw [BitVec.toNat_ofNat]; exact Nat.mod_eq_of_lt (by omega)
  have c0 : cc0_transform_0 (grid0.coords t) = ![t.val / 37, 0] := by
    unfold cc0_transform_0; dsimp only; rw [e0, w (t.val / 37) (by omega)]; try rfl
  have c1 : cc0_transform_1 (grid0.coords t) = ![t.val / 37 / 16, 0, 0] := sample_1 _ ⟨t.val / 37, by omega⟩ e0
  have c2 : cc0_transform_2 (grid0.coords t) = ![t.val / 37 / 16, 0, 0] := sample_2 _ ⟨t.val / 37, by omega⟩ e0
  have c3 : cc0_transform_3 (grid0.coords t) = ![0, t.val % 37] := by
    unfold cc0_transform_3; dsimp only; rw [e1, w (t.val % 37) (by omega)]; try rfl
  have c4 : cc0_transform_4 (grid0.coords t) = ![t.val / 37, t.val % 37] := by
    unfold cc0_transform_4; dsimp only; rw [e0, e1, w (t.val / 37) (by omega), w (t.val % 37) (by omega)]; try rfl
  exact ⟨c0, c1, c2, c3, c4⟩

theorem lt_token (t : Fin cfg0.N) (r : Fin 512) : t.val / 37 * 512 + r.val < 16384 := by have := t_lt t; omega
theorem lt_sample (t : Fin cfg0.N) : t.val / 37 / 16 < 2 := by have := t_lt t; omega
theorem lt_col (t : Fin cfg0.N) (j : Fin 512) : t.val % 37 * 512 + j.val < 18944 := by omega

variable (m : (ℓ : Loc nD τ sig) → Buf (Elt Ideal) ℓ)

theorem rd0 (A : (Pipeline.arrRef spec0 0).ty.Contents (Elt Ideal)) (t : Fin cfg0.N) (r : Fin 512) (d : Fin 2048) :
    ((win0_0.blk t).view.read (Elt Ideal) A : FVec Ideal S512x2048 .f32) (ix2 r d) = (A : FVec Ideal S16384x2048 .f32) (ix2 ⟨t.val / 37 * 512 + r.val, lt_token t r⟩ d) := by
  obtain ⟨h0, h1, h2, h3, h4⟩ := idx_win t
  refine congrArg A (a₁ := (win0_0.rect t).emb (ix2 r d)) ?_
  funext a
  apply Fin.ext
  refine (Pipeline.Window.rect_emb_val win0_0 t _ a).trans ?_
  rw [h0]
  fin_cases a
  · show t.val / 37 * 512 + r.val = t.val / 37 * 512 + r.val
    omega
  · show 0 * 2048 + d.val = d.val
    omega

/-- Block 0 of point `t`, at an index. -/
theorem blk0 (c : Dev nD) (t : Fin cfg0.N) (r : Fin 512) (d : Fin 2048) :
    (iblk m c 0 t : FVec Ideal S512x2048 .f32) (ix2 r d) = (V m c main_v0 : FVec Ideal S16384x2048 .f32) (ix2 ⟨t.val / 37 * 512 + r.val, lt_token t r⟩ d) := by
  unfold iblk
  exact rd0 (V m c main_v0) t r d

theorem rd1 (A : (Pipeline.arrRef spec0 1).ty.Contents (Elt Ideal)) (t : Fin cfg0.N) (d : Fin 2048) :
    ((win0_1.blk t).view.read (Elt Ideal) A : FVec Ideal S1x1x2048 .f32) (ix3 0 0 d) = (A : FVec Ideal S2x1x2048 .f32) (ix3 ⟨t.val / 37 / 16, lt_sample t⟩ 0 d) := by
  obtain ⟨h0, h1, h2, h3, h4⟩ := idx_win t
  refine congrArg A (a₁ := (win0_1.rect t).emb (ix3 0 0 d)) ?_
  funext a
  apply Fin.ext
  refine (Pipeline.Window.rect_emb_val win0_1 t _ a).trans ?_
  rw [h1]
  fin_cases a
  · show t.val / 37 / 16 * 1 + 0 = t.val / 37 / 16
    omega
  · show 0 * 1 + 0 = 0
    omega
  · show 0 * 2048 + d.val = d.val
    omega

/-- Block 1 of point `t`, at an index. -/
theorem blk1 (c : Dev nD) (t : Fin cfg0.N) (d : Fin 2048) :
    (iblk m c 1 t : FVec Ideal S1x1x2048 .f32) (ix3 0 0 d) = (V m c main_v1 : FVec Ideal S2x1x2048 .f32) (ix3 ⟨t.val / 37 / 16, lt_sample t⟩ 0 d) := by
  unfold iblk
  exact rd1 (V m c main_v1) t d

theorem rd2 (A : (Pipeline.arrRef spec0 2).ty.Contents (Elt Ideal)) (t : Fin cfg0.N) (d : Fin 2048) :
    ((win0_2.blk t).view.read (Elt Ideal) A : FVec Ideal S1x1x2048 .f32) (ix3 0 0 d) = (A : FVec Ideal S2x1x2048 .f32) (ix3 ⟨t.val / 37 / 16, lt_sample t⟩ 0 d) := by
  obtain ⟨h0, h1, h2, h3, h4⟩ := idx_win t
  refine congrArg A (a₁ := (win0_2.rect t).emb (ix3 0 0 d)) ?_
  funext a
  apply Fin.ext
  refine (Pipeline.Window.rect_emb_val win0_2 t _ a).trans ?_
  rw [h2]
  fin_cases a
  · show t.val / 37 / 16 * 1 + 0 = t.val / 37 / 16
    omega
  · show 0 * 1 + 0 = 0
    omega
  · show 0 * 2048 + d.val = d.val
    omega

/-- Block 2 of point `t`, at an index. -/
theorem blk2 (c : Dev nD) (t : Fin cfg0.N) (d : Fin 2048) :
    (iblk m c 2 t : FVec Ideal S1x1x2048 .f32) (ix3 0 0 d) = (V m c main_v2 : FVec Ideal S2x1x2048 .f32) (ix3 ⟨t.val / 37 / 16, lt_sample t⟩ 0 d) := by
  unfold iblk
  exact rd2 (V m c main_v2) t d

theorem rd3 (A : (Pipeline.arrRef spec0 3).ty.Contents (Elt Ideal)) (t : Fin cfg0.N) (d : Fin 2048) (j : Fin 512) :
    ((win0_3.blk t).view.read (Elt Ideal) A : FVec Ideal S2048x512 .bf16) (ix2 d j) = (A : FVec Ideal S2048x18944 .bf16) (ix2 d ⟨t.val % 37 * 512 + j.val, lt_col t j⟩) := by
  obtain ⟨h0, h1, h2, h3, h4⟩ := idx_win t
  refine congrArg A (a₁ := (win0_3.rect t).emb (ix2 d j)) ?_
  funext a
  apply Fin.ext
  refine (Pipeline.Window.rect_emb_val win0_3 t _ a).trans ?_
  rw [h3]
  fin_cases a
  · show 0 * 2048 + d.val = d.val
    omega
  · show t.val % 37 * 512 + j.val = t.val % 37 * 512 + j.val
    omega

/-- Block 3 of point `t`, at an index. -/
theorem blk3 (c : Dev nD) (t : Fin cfg0.N) (d : Fin 2048) (j : Fin 512) :
    (iblk m c 3 t : FVec Ideal S2048x512 .bf16) (ix2 d j) = (V m c main_v55 : FVec Ideal S2048x18944 .bf16) (ix2 d ⟨t.val % 37 * 512 + j.val, lt_col t j⟩) := by
  unfold iblk
  exact rd3 (V m c main_v55) t d j

end Cert.InProjIdeal.Value

end
-- ==== Proof.InProjArray.lean ====
/- The input projection's array: the modulated rows are kept along a block of tokens, and every block of columns takes
   their product with its weights. -/
module

public import proofs.«01_k».proof.Proof.InProjBlock
public import proofs.«01_k».proof.Proof.InProjGrid
public import Idealize.ShloMosaic.Lib.Pipeline.ValueKit
public import Idealize.ShloMosaic.Lib.Claim
public import Idealize.ShloMosaic.Lib.StableHlo.ReadAt
public import Idealize.ShloMosaic.Lib.Pointwise
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

namespace Cert.InProjIdeal.Value

open Cert.InProjIdeal Cert.InProjIdeal.Gen

variable (m : (ℓ : Loc nD τ sig) → Buf (Elt Ideal) ℓ) (c : Dev nD)

/-- The output block after position `n`. -/
@[irreducible] def held (n : ℕ) (hn : n < cfg0.N) : FVec Ideal S512x512 .bf16 := (outsAt0 m c n hn).1
/-- The rows that are kept after position `n`. -/
@[irreducible] def kept (n : ℕ) (hn : n < cfg0.N) : FVec Ideal S512x2048 .bf16 := (outsAt0 m c n hn).2

/-- A token's row, normed and modulated. -/
def tokenRow (b : Fin 2) (l : Fin 8192) (d : Fin 2048) : EReal :=
  modulated (fun d => (m (c, Proc.tc.devRef main_arg0) : FVec Ideal S2x8192x2048 .f32) (ix3 b l d))
    (fun d => (m (c, Proc.tc.devRef main_arg1) : FVec Ideal S2x2048 .f32) (ix2 b d))
    (fun d => (m (c, Proc.tc.devRef main_arg2) : FVec Ideal S2x2048 .f32) (ix2 b d)) d

/-- The same, tokens numbered through. -/
def rowAt (R : ℕ) (hR : R < 16384) (d : Fin 2048) : EReal := tokenRow m c ⟨R / 8192, by omega⟩ ⟨R % 8192, by omega⟩ d

theorem x_at (R : ℕ) (hR : R < 16384) (d : Fin 2048) :
    (V m c main_v0 : FVec Ideal S16384x2048 .f32) (ix2 ⟨R, hR⟩ d)
      = (m (c, Proc.tc.devRef main_arg0) : FVec Ideal S2x8192x2048 .f32) (ix3 ⟨R / 8192, by omega⟩ ⟨R % 8192, by omega⟩ d) := by
  unfold V V0
  unfold hostOps0 hostOps0_1 hostOps0_2 hostOps0_3 hostOps0_4 hostOps0_5 hostOps0_6 hostOps0_7 hostOps0_8 hostOps0_9 hostOps0_10 hostOps0_11 hostOps0_12 hostOps0_13 hostOps0_14 hostOps0_15 hostOps0_16 hostOps0_17 hostOps0_18 hostOps0_19 hostOps0_20 hostOps0_21 hostOps0_22 hostOps0_23 hostOps0_24 hostOps0_25 hostOps0_26 hostOps0_27 hostOps0_28 hostOps0_29 hostOps0_30 hostOps0_31 hostOps0_32 hostOps0_33 hostOps0_34 hostOps0_35 hostOps0_36 hostOps0_37 hostOps0_38
  simp only [List.flatten_cons, List.flatten_nil, List.cons_append, List.nil_append, List.append_nil]
  entry_read
  pointwise

theorem shift_at (b : Fin 2) (d : Fin 2048) :
    (V m c main_v1 : FVec Ideal S2x1x2048 .f32) (ix3 b 0 d) = (m (c, Proc.tc.devRef main_arg1) : FVec Ideal S2x2048 .f32) (ix2 b d) := by
  unfold V V0
  unfold hostOps0 hostOps0_1 hostOps0_2 hostOps0_3 hostOps0_4 hostOps0_5 hostOps0_6 hostOps0_7 hostOps0_8 hostOps0_9 hostOps0_10 hostOps0_11 hostOps0_12 hostOps0_13 hostOps0_14 hostOps0_15 hostOps0_16 hostOps0_17 hostOps0_18 hostOps0_19 hostOps0_20 hostOps0_21 hostOps0_22 hostOps0_23 hostOps0_24 hostOps0_25 hostOps0_26 hostOps0_27 hostOps0_28 hostOps0_29 hostOps0_30 hostOps0_31 hostOps0_32 hostOps0_33 hostOps0_34 hostOps0_35 hostOps0_36 hostOps0_37 hostOps0_38
  simp only [List.flatten_cons, List.flatten_nil, List.cons_append, List.nil_append, List.append_nil]
  entry_read
  pointwise

theorem scale_at (b : Fin 2) (d : Fin 2048) :
    (V m c main_v2 : FVec Ideal S2x1x2048 .f32) (ix3 b 0 d) = (m (c, Proc.tc.devRef main_arg2) : FVec Ideal S2x2048 .f32) (ix2 b d) := by
  unfold V V0
  unfold hostOps0 hostOps0_1 hostOps0_2 hostOps0_3 hostOps0_4 hostOps0_5 hostOps0_6 hostOps0_7 hostOps0_8 hostOps0_9 hostOps0_10 hostOps0_11 hostOps0_12 hostOps0_13 hostOps0_14 hostOps0_15 hostOps0_16 hostOps0_17 hostOps0_18 hostOps0_19 hostOps0_20 hostOps0_21 hostOps0_22 hostOps0_23 hostOps0_24 hostOps0_25 hostOps0_26 hostOps0_27 hostOps0_28 hostOps0_29 hostOps0_30 hostOps0_31 hostOps0_32 hostOps0_33 hostOps0_34 hostOps0_35 hostOps0_36 hostOps0_37 hostOps0_38
  simp only [List.flatten_cons, List.flatten_nil, List.cons_append, List.nil_append, List.append_nil]
  entry_read
  pointwise

/-- A block's modulated row, when its windows hold the token's row and its sample's shift and scale. -/
theorem row_of (x0 : FVec Ideal S512x2048 .f32) (x1 x2 : FVec Ideal S1x1x2048 .f32) (R : ℕ) (hR : R < 16384) (r : Fin 512) (d : Fin 2048)
    (e0 : ∀ d, (x0 (ix2 r d) : EReal) = (m (c, Proc.tc.devRef main_arg0) : FVec Ideal S2x8192x2048 .f32) (ix3 ⟨R / 8192, by omega⟩ ⟨R % 8192, by omega⟩ d))
    (e1 : ∀ d, (x1 (ix3 0 0 d) : EReal) = (m (c, Proc.tc.devRef main_arg1) : FVec Ideal S2x2048 .f32) (ix2 ⟨R / 8192, by omega⟩ d))
    (e2 : ∀ d, (x2 (ix3 0 0 d) : EReal) = (m (c, Proc.tc.devRef main_arg2) : FVec Ideal S2x2048 .f32) (ix2 ⟨R / 8192, by omega⟩ d)) :
    row x0 x1 x2 r d = rowAt m c R hR d := by
  unfold row rowAt tokenRow
  rw [show (fun d => (x0 (ix2 r d) : EReal)) = _ from funext e0, show (fun d => (x1 (ix3 0 0 d) : EReal)) = _ from funext e1, show (fun d => (x2 (ix3 0 0 d) : EReal)) = _ from funext e2]

theorem row_at (t : Fin cfg0.N) (r : Fin 512) (d : Fin 2048) :
    row (iblk m c 0 t) (iblk m c 1 t) (iblk m c 2 t) r d = rowAt m c (t.val / 37 * 512 + r.val) (lt_token t r) d := by
  have hs : (⟨t.val / 37 / 16, lt_sample t⟩ : Fin 2) = ⟨(t.val / 37 * 512 + r.val) / 8192, by have := lt_token t r; omega⟩ := Fin.ext (by dsimp only; omega)
  refine row_of m c _ _ _ _ _ r d (fun d => (blk0 m c t r d).trans (x_at m c _ _ d)) (fun d => ?_) (fun d => ?_)
  · rw [← hs]
    exact (blk1 m c t d).trans (shift_at m c _ d)
  · rw [← hs]
    exact (blk2 m c t d).trans (scale_at m c _ d)

theorem kept_first (t : Fin cfg0.N) (h0 : t.val % 37 = 0) (r : Fin 512) (d : Fin 2048) :
    kept m c t.val t.isLt (ix2 r d) = rowAt m c (t.val / 37 * 512 + r.val) (lt_token t r) d := by
  refine Eq.trans ?_ (row_at m c t r d)
  unfold kept
  rw [outsAt0_A m c t h0]
  dsimp only
  exact kept_A c _ _ _ _ _ _ _ _ _ _ _ _ _ (iblk m c 0 t) (iblk m c 1 t) (iblk m c 2 t) (iblk m c 3 t) _ r d

theorem kept_next (t : Fin cfg0.N) (h0 : ¬t.val % 37 = 0) (p : ℕ) (hp : p < cfg0.N) (e : t.val - 1 = p) (r : Fin 512) (d : Fin 2048) :
    kept m c t.val t.isLt (ix2 r d) = kept m c p hp (ix2 r d) := by
  subst e
  unfold kept
  rw [outsAt0_B m c t h0]
  dsimp only
  exact kept_B c _ _ _ _ _ _ _ _ _ _ _ _ _ (iblk m c 0 t) (iblk m c 1 t) (iblk m c 2 t) (iblk m c 3 t) _ _ r d

/-- The rows kept after a point are its block's modulated rows. -/
theorem kept_at (n : ℕ) : ∀ (hn : n < cfg0.N) (r : Fin 512) (d : Fin 2048),
    kept m c n hn (ix2 r d) = rowAt m c (n / 37 * 512 + r.val) (lt_token ⟨n, hn⟩ r) d := by
  induction n with
  | zero => exact fun hn r d => kept_first m c ⟨0, hn⟩ rfl r d
  | succ n ih =>
    intro hn r d
    by_cases h0 : (n + 1) % 37 = 0
    · exact kept_first m c ⟨n + 1, hn⟩ h0 r d
    · refine (kept_next m c ⟨n + 1, hn⟩ h0 n (by omega) rfl r d).trans ((ih _ r d).trans ?_)
      have e : n / 37 = (n + 1) / 37 := by omega
      simp only [e]

/-- The output block after a point: the modulated rows through the point's block of the weights. -/
theorem held_at (t : Fin cfg0.N) (r : Fin 512) (j : Fin 512) :
    (held m c t.val t.isLt (ix2 r j) : EReal) = ∑ d : Fin 2048, rowAt m c (t.val / 37 * 512 + r.val) (lt_token t r) d
      * (V m c main_v55 : FVec Ideal S2048x18944 .bf16) (ix2 d ⟨t.val % 37 * 512 + j.val, lt_col t j⟩) := by
  by_cases h0 : t.val % 37 = 0
  · refine Eq.trans (b := ∑ d : Fin 2048, row (iblk m c 0 t) (iblk m c 1 t) (iblk m c 2 t) r d * (iblk m c 3 t : FVec Ideal S2048x512 .bf16) (ix2 d j)) ?_
      (Finset.sum_congr rfl fun d _ => by rw [row_at m c t r d, blk3 m c t d j])
    unfold held
    rw [outsAt0_A m c t h0]
    dsimp only
    exact out_A c _ _ _ _ _ _ _ _ _ _ _ _ _ (iblk m c 0 t) (iblk m c 1 t) (iblk m c 2 t) (iblk m c 3 t) _ r j
  · have hp : t.val - 1 < cfg0.N := Nat.lt_of_le_of_lt (Nat.sub_le _ _) t.isLt
    have e : (t.val - 1) / 37 = t.val / 37 := by omega
    refine Eq.trans (b := ∑ d : Fin 2048, kept m c (t.val - 1) hp (ix2 r d) * (iblk m c 3 t : FVec Ideal S2048x512 .bf16) (ix2 d j)) ?_
      (Finset.sum_congr rfl fun d _ => by rw [kept_at m c (t.val - 1) hp r d, blk3 m c t d j]; simp only [e])
    unfold held kept
    rw [outsAt0_B m c t h0]
    dsimp only
    exact out_B c _ _ _ _ _ _ _ _ _ _ _ _ _ (iblk m c 0 t) (iblk m c 1 t) (iblk m c 2 t) (iblk m c 3 t) _ _ r j

/-- A block of the array, written back. -/
theorem block_written (X : FVec Ideal S512x512 .bf16) (G : FVec Ideal S16384x18944 .bf16) (t : Fin cfg0.N)
    (hX : ∀ (r : Fin 512) (j : Fin 512), X (ix2 r j) = G (ix2 ⟨t.val / 37 * 512 + r.val, lt_token t r⟩ ⟨t.val % 37 * 512 + j.val, lt_col t j⟩)) :
    (cfg0.win 4).cut (grid0.coords t) X = ((cfg0.win 4).blk t).view.read (Elt Ideal) G := by
  obtain ⟨_, _, _, _, h4⟩ := idx_win t
  have key : ∀ y : S512x512.Idx, X y = G ((win0_4.rect t).emb y) := fun y => by
    have ey : y = ix2 (y 0) (y 1) := by
      funext a
      fin_cases a <;> rfl
    rw [ey]
    refine (hX _ _).trans (congrArg G ?_)
    funext a
    apply Fin.ext
    refine Eq.trans ?_ (Pipeline.Window.rect_emb_val win0_4 t _ a).symm
    rw [h4]
    fin_cases a
    · rfl
    · rfl
  exact funext fun y => key y

/-- The blocks written back cover the array. -/
theorem blocks_cover (i : S16384x18944.Idx) : ∃ t : Fin cfg0.N, (cfg0.win 4).flush t = true ∧ i ∈ ((cfg0.win 4).blk t).view.set := by
  have h0 : (i 0).val < 16384 := (i 0).isLt
  have h1 : (i 1).val < 18944 := (i 1).isLt
  obtain ⟨T, hT⟩ : ∃ T, T = (i 0).val / 512 * 37 + (i 1).val / 512 := ⟨_, rfl⟩
  have hlt : T < cfg0.N := by
    rw [show cfg0.N = 1184 from N_0]; omega
  have e0 : T / 37 = (i 0).val / 512 := by omega
  have e1 : T % 37 = (i 1).val / 512 := by omega
  refine ⟨⟨T, hlt⟩, flush0_4 _, ?_⟩
  obtain ⟨_, _, _, _, h4⟩ := idx_win ⟨T, hlt⟩
  refine (Pipeline.Window.emb_mem_blk_iff win0_4 ⟨T, hlt⟩ i).2 fun a => ?_
  rw [h4]
  fin_cases a
  · show T / 37 * 512 ≤ (i 0).val ∧ (i 0).val < T / 37 * 512 + 512
    omega
  · show T % 37 * 512 ≤ (i 1).val ∧ (i 1).val < T % 37 * 512 + 512
    omega

/-- The call's array: every row through every column of the weights. -/
def product : FVec Ideal S16384x18944 .bf16 := fun y =>
  ∑ d : Fin 2048, rowAt m c (y 0).val (y 0).isLt d * (V m c main_v55 : FVec Ideal S2048x18944 .bf16) (ix2 d (y 1))

theorem array_eq : (dats m 0 c).arrAt 4 cfg0.N = product m c := by
  refine (dats m 0 c).arrAt_eq_of_cover 4 (product m c) (fun t ht => ?_) blocks_cover
  have e : (dats m 0 c).after 4 t = held m c t.val t.isLt := by
    unfold held
    exact after0_4 m c t
  refine Eq.trans (congrArg ((cfg0.win 4).cut (grid0.coords t)) e) (block_written _ _ t fun r j => (held_at m c t r j).trans rfl)

end Cert.InProjIdeal.Value

end
-- ==== Proof.InProjCat.lean ====
module

public import proofs.«01_k».proof.Proof.Gen.InProjIdeal.Frame
public import Idealize.ShloMosaic.Lib.Pipeline.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.InProjIdeal.Value

open Cert.InProjIdeal Cert.InProjIdeal.Gen

/-- Arrays side by side, read at a column of piece `k`. -/
theorem cat_at {α : Type} {R C w : ℕ} (xs : List ((s : Shape) × (s.Idx → α))) (h : Shape.Concatenates (xs.map (·.1)) ⟨2, ![R, C]⟩ 1)
    (k : ℕ) (hk : k < xs.length) (x : Shape.Idx ⟨2, ![R, w]⟩ → α) (hx : xs[k] = ⟨⟨2, ![R, w]⟩, x⟩) (pre : ℕ)
    (hpre : (((xs.take k).map (·.1)).map fun s => if h : s.rank = 2 then s.size (Fin.cast h.symm 1) else 0).sum = pre)
    (r : Fin R) (q : ℕ) (hq : q < w) (n : ℕ) (hn : n < C) (e : pre + q = n) :
    concatenate ⟨2, ![R, C]⟩ 1 xs h (ix2 r ⟨n, hn⟩) = x (ix2 r ⟨q, hq⟩) := by
  refine concatenate_apply_piece (t := ⟨2, ![R, C]⟩) 1 xs h (ix2 r ⟨n, hn⟩) k hk ⟨2, ![R, w]⟩ x hx rfl pre hpre (ix2 r ⟨q, hq⟩) (fun b hb => ?_) e
  fin_cases b
  · rfl
  · exact absurd rfl hb

/-- A cast to the narrower format changes nothing on the extended reals. -/
theorem narrowed (x : FVec Ideal S2048x18944 .f32) (h : FTy.bf16.bits < FTy.f32.bits) (i : S2048x18944.Idx) :
    (truncf (F := Ideal) .bf16 x h i : EReal) = x i := rfl

end Cert.InProjIdeal.Value

end
-- ==== Proof.InProjLaid.lean ====
/- The weights of the input projection, laid out in the order of the call. -/
module

public import proofs.«01_k».proof.Proof.Gen.InProjIdeal.Frame
public import Idealize.ShloMosaic.Lib.Pipeline.ValueKit
public import Idealize.ShloMosaic.Lib.Claim
public import Idealize.ShloMosaic.Lib.StableHlo.ReadAt
public import Idealize.ShloMosaic.Lib.Pointwise
public import Idealize.ShloMosaic.Lib.KernelVsHost
public import proofs.«01_k».proof.Proof.InProjCat

@[expose] public section

set_option maxRecDepth 16384

noncomputable section

open Idealize.ShloMosaic Idealize.ShloMosaic.TcCoe Idealize.SL.Sem
open Idealize.ShloMosaic.Pipeline (Dat)

namespace Cert.InProjIdeal.Value

open Cert.InProjIdeal Cert.InProjIdeal.Gen

theorem c16 (W : Valuation τ sig (Elt Ideal)) :
    StableHlo.after ((hostOps0_38.drop 2).take 1) W (Proc.tc.devRef main_v52)
      = concatenate S2048x18432 1 [⟨S2048x8192, (W (Proc.tc.devRef main_v32) : FVec Ideal S2048x8192 .f32)⟩, ⟨S2048x1024, (W (Proc.tc.devRef main_v33) : FVec Ideal S2048x1024 .f32)⟩, ⟨S2048x1024, (W (Proc.tc.devRef main_v34) : FVec Ideal S2048x1024 .f32)⟩, ⟨S2048x1024, (W (Proc.tc.devRef main_v35) : FVec Ideal S2048x1024 .f32)⟩, ⟨S2048x1024, (W (Proc.tc.devRef main_v36) : FVec Ideal S2048x1024 .f32)⟩, ⟨S2048x1024, (W (Proc.tc.devRef main_v37) : FVec Ideal S2048x1024 .f32)⟩, ⟨S2048x1024, (W (Proc.tc.devRef main_v38) : FVec Ideal S2048x1024 .f32)⟩, ⟨S2048x1024, (W (Proc.tc.devRef main_v39) : FVec Ideal S2048x1024 .f32)⟩, ⟨S2048x1024, (W (Proc.tc.devRef main_v40) : FVec Ideal S2048x1024 .f32)⟩, ⟨S2048x512, (W (Proc.tc.devRef main_v41) : FVec Ideal S2048x512 .f32)⟩, ⟨S2048x512, (W (Proc.tc.devRef main_v42) : FVec Ideal S2048x512 .f32)⟩, ⟨S2048x256, (W (Proc.tc.devRef main_v43) : FVec Ideal S2048x256 .f32)⟩, ⟨S2048x256, (W (Proc.tc.devRef main_v44) : FVec Ideal S2048x256 .f32)⟩, ⟨S2048x256, (W (Proc.tc.devRef main_v45) : FVec Ideal S2048x256 .f32)⟩, ⟨S2048x128, (W (Proc.tc.devRef main_v46) : FVec Ideal S2048x128 .f32)⟩, ⟨S2048x128, (W (Proc.tc.devRef main_v47) : FVec Ideal S2048x128 .f32)⟩] concatenates_S2048x8192_S2048x1024_S2048x1024_S2048x1024_S2048x1024_S2048x1024_S2048x1024_S2048x1024_S2048x1024_S2048x512_S2048x512_S2048x256_S2048x256_S2048x256_S2048x128_S2048x128_S2048x18432_d1 := by
  unfold hostOps0_38
  simp only [List.drop_succ_cons, List.drop_zero, List.take_succ_cons, List.take_zero]
  rw [StableHlo.after_cons, StableHlo.after_nil, StableHlo.nary_result]
  rfl

theorem c4 (W : Valuation τ sig (Elt Ideal)) :
    StableHlo.after ((hostOps0_38.drop 3).take 1) W (Proc.tc.devRef main_v53)
      = concatenate S2048x512 1 [⟨S2048x128, (W (Proc.tc.devRef main_v48) : FVec Ideal S2048x128 .f32)⟩, ⟨S2048x128, (W (Proc.tc.devRef main_v49) : FVec Ideal S2048x128 .f32)⟩, ⟨S2048x128, (W (Proc.tc.devRef main_v50) : FVec Ideal S2048x128 .f32)⟩, ⟨S2048x128, (W (Proc.tc.devRef main_v51) : FVec Ideal S2048x128 .f32)⟩] concatenates_S2048x128_S2048x128_S2048x128_S2048x128_S2048x512_d1 := by
  unfold hostOps0_38
  simp only [List.drop_succ_cons, List.drop_zero, List.take_succ_cons, List.take_zero]
  rw [StableHlo.after_cons, StableHlo.after_nil, StableHlo.nary_result]
  rfl

theorem c2 (W : Valuation τ sig (Elt Ideal)) :
    StableHlo.after (hostOps0_38.drop 4) W (Proc.tc.devRef main_v55)
      = truncf (F := Ideal) .bf16 (concatenate S2048x18944 1 [⟨S2048x18432, (W (Proc.tc.devRef main_v52) : FVec Ideal S2048x18432 .f32)⟩, ⟨S2048x512, (W (Proc.tc.devRef main_v53) : FVec Ideal S2048x512 .f32)⟩] concatenates_S2048x18432_S2048x512_S2048x18944_d1) bitsLt_bf16_f32 := by
  unfold hostOps0_38
  simp only [List.drop_succ_cons, List.drop_zero]
  after_results

theorem keep2 (W : Valuation τ sig (Elt Ideal)) (b : Ref sig .tc) (h1 : b ≠ main_cst) (h2 : b ≠ main_v51) :
    StableHlo.after (hostOps0_38.take 2) W (Proc.tc.devRef b) = W (Proc.tc.devRef b) := by
  unfold hostOps0_38
  simp only [List.take_succ_cons, List.take_zero]
  rw [StableHlo.after_cons, StableHlo.after_cons, StableHlo.after_nil, StableHlo.unary_result_ne (h := h2), StableHlo.nullary_result_ne (h := h1)]

theorem keep16 (W : Valuation τ sig (Elt Ideal)) (b : Ref sig .tc) (h : b ≠ main_v52) :
    StableHlo.after ((hostOps0_38.drop 2).take 1) W (Proc.tc.devRef b) = W (Proc.tc.devRef b) := by
  unfold hostOps0_38
  simp only [List.drop_succ_cons, List.drop_zero, List.take_succ_cons, List.take_zero]
  exact StableHlo.nary_result_ne (h := h) ..

theorem keep4 (W : Valuation τ sig (Elt Ideal)) (b : Ref sig .tc) (h : b ≠ main_v53) :
    StableHlo.after ((hostOps0_38.drop 3).take 1) W (Proc.tc.devRef b) = W (Proc.tc.devRef b) := by
  unfold hostOps0_38
  simp only [List.drop_succ_cons, List.drop_zero, List.take_succ_cons, List.take_zero]
  exact StableHlo.nary_result_ne (h := h) ..

/-- The weights, from the buffers before their pieces are laid side by side. -/
theorem laid (U : Valuation τ sig (Elt Ideal)) :
    StableHlo.after hostOps0_38 U (Proc.tc.devRef main_v55)
      = StableHlo.after (hostOps0_38.drop 4) (StableHlo.after ((hostOps0_38.drop 3).take 1) (StableHlo.after ((hostOps0_38.drop 2).take 1) (StableHlo.after (hostOps0_38.take 2) U))) (Proc.tc.devRef main_v55) := rfl

/-- A column of the first sixteen pieces. -/
theorem laid_left (U : Valuation τ sig (Elt Ideal)) (d : Fin 2048) (n : ℕ) (hn : n < 18432) :
    (StableHlo.after hostOps0_38 U (Proc.tc.devRef main_v55) : FVec Ideal S2048x18944 .bf16) (ix2 d ⟨n, by omega⟩)
      = (concatenate S2048x18432 1 [⟨S2048x8192, (U (Proc.tc.devRef main_v32) : FVec Ideal S2048x8192 .f32)⟩, ⟨S2048x1024, (U (Proc.tc.devRef main_v33) : FVec Ideal S2048x1024 .f32)⟩, ⟨S2048x1024, (U (Proc.tc.devRef main_v34) : FVec Ideal S2048x1024 .f32)⟩, ⟨S2048x1024, (U (Proc.tc.devRef main_v35) : FVec Ideal S2048x1024 .f32)⟩, ⟨S2048x1024, (U (Proc.tc.devRef main_v36) : FVec Ideal S2048x1024 .f32)⟩, ⟨S2048x1024, (U (Proc.tc.devRef main_v37) : FVec Ideal S2048x1024 .f32)⟩, ⟨S2048x1024, (U (Proc.tc.devRef main_v38) : FVec Ideal S2048x1024 .f32)⟩, ⟨S2048x1024, (U (Proc.tc.devRef main_v39) : FVec Ideal S2048x1024 .f32)⟩, ⟨S2048x1024, (U (Proc.tc.devRef main_v40) : FVec Ideal S2048x1024 .f32)⟩, ⟨S2048x512, (U (Proc.tc.devRef main_v41) : FVec Ideal S2048x512 .f32)⟩, ⟨S2048x512, (U (Proc.tc.devRef main_v42) : FVec Ideal S2048x512 .f32)⟩, ⟨S2048x256, (U (Proc.tc.devRef main_v43) : FVec Ideal S2048x256 .f32)⟩, ⟨S2048x256, (U (Proc.tc.devRef main_v44) : FVec Ideal S2048x256 .f32)⟩, ⟨S2048x256, (U (Proc.tc.devRef main_v45) : FVec Ideal S2048x256 .f32)⟩, ⟨S2048x128, (U (Proc.tc.devRef main_v46) : FVec Ideal S2048x128 .f32)⟩, ⟨S2048x128, (U (Proc.tc.devRef main_v47) : FVec Ideal S2048x128 .f32)⟩] concatenates_S2048x8192_S2048x1024_S2048x1024_S2048x1024_S2048x1024_S2048x1024_S2048x1024_S2048x1024_S2048x1024_S2048x512_S2048x512_S2048x256_S2048x256_S2048x256_S2048x128_S2048x128_S2048x18432_d1) (ix2 d ⟨n, hn⟩) := by
  rw [laid, c2, keep4 _ main_v52 (by decide), c16]
  rw [keep2 _ main_v32 (by decide) (by decide), keep2 _ main_v33 (by decide) (by decide), keep2 _ main_v34 (by decide) (by decide), keep2 _ main_v35 (by decide) (by decide), keep2 _ main_v36 (by decide) (by decide), keep2 _ main_v37 (by decide) (by decide), keep2 _ main_v38 (by decide) (by decide), keep2 _ main_v39 (by decide) (by decide), keep2 _ main_v40 (by decide) (by decide), keep2 _ main_v41 (by decide) (by decide), keep2 _ main_v42 (by decide) (by decide), keep2 _ main_v43 (by decide) (by decide), keep2 _ main_v44 (by decide) (by decide), keep2 _ main_v45 (by decide) (by decide), keep2 _ main_v46 (by decide) (by decide), keep2 _ main_v47 (by decide) (by decide)]
  refine (narrowed _ _ _).trans (cat_at _ _ 0 ?_ (concatenate S2048x18432 1 [⟨S2048x8192, (U (Proc.tc.devRef main_v32) : FVec Ideal S2048x8192 .f32)⟩, ⟨S2048x1024, (U (Proc.tc.devRef main_v33) : FVec Ideal S2048x1024 .f32)⟩, ⟨S2048x1024, (U (Proc.tc.devRef main_v34) : FVec Ideal S2048x1024 .f32)⟩, ⟨S2048x1024, (U (Proc.tc.devRef main_v35) : FVec Ideal S2048x1024 .f32)⟩, ⟨S2048x1024, (U (Proc.tc.devRef main_v36) : FVec Ideal S2048x1024 .f32)⟩, ⟨S2048x1024, (U (Proc.tc.devRef main_v37) : FVec Ideal S2048x1024 .f32)⟩, ⟨S2048x1024, (U (Proc.tc.devRef main_v38) : FVec Ideal S2048x1024 .f32)⟩, ⟨S2048x1024, (U (Proc.tc.devRef main_v39) : FVec Ideal S2048x1024 .f32)⟩, ⟨S2048x1024, (U (Proc.tc.devRef main_v40) : FVec Ideal S2048x1024 .f32)⟩, ⟨S2048x512, (U (Proc.tc.devRef main_v41) : FVec Ideal S2048x512 .f32)⟩, ⟨S2048x512, (U (Proc.tc.devRef main_v42) : FVec Ideal S2048x512 .f32)⟩, ⟨S2048x256, (U (Proc.tc.devRef main_v43) : FVec Ideal S2048x256 .f32)⟩, ⟨S2048x256, (U (Proc.tc.devRef main_v44) : FVec Ideal S2048x256 .f32)⟩, ⟨S2048x256, (U (Proc.tc.devRef main_v45) : FVec Ideal S2048x256 .f32)⟩, ⟨S2048x128, (U (Proc.tc.devRef main_v46) : FVec Ideal S2048x128 .f32)⟩, ⟨S2048x128, (U (Proc.tc.devRef main_v47) : FVec Ideal S2048x128 .f32)⟩] concatenates_S2048x8192_S2048x1024_S2048x1024_S2048x1024_S2048x1024_S2048x1024_S2048x1024_S2048x1024_S2048x1024_S2048x512_S2048x512_S2048x256_S2048x256_S2048x256_S2048x128_S2048x128_S2048x18432_d1) ?_ 0 ?_ d n hn _ _ ?_)
  · simp
  · rfl
  · rfl
  · omega

/-- A column of the last four. -/
theorem laid_right (U : Valuation τ sig (Elt Ideal)) (d : Fin 2048) (n : ℕ) (hn : n < 512) :
    ∃ z : FVec Ideal S2048x128 .f32, (StableHlo.after hostOps0_38 U (Proc.tc.devRef main_v55) : FVec Ideal S2048x18944 .bf16) (ix2 d ⟨18432 + n, by omega⟩)
      = (concatenate S2048x512 1 [⟨S2048x128, (U (Proc.tc.devRef main_v48) : FVec Ideal S2048x128 .f32)⟩, ⟨S2048x128, (U (Proc.tc.devRef main_v49) : FVec Ideal S2048x128 .f32)⟩, ⟨S2048x128, (U (Proc.tc.devRef main_v50) : FVec Ideal S2048x128 .f32)⟩, ⟨S2048x128, z⟩] concatenates_S2048x128_S2048x128_S2048x128_S2048x128_S2048x512_d1) (ix2 d ⟨n, hn⟩) := by
  refine ⟨StableHlo.after (hostOps0_38.take 2) U (Proc.tc.devRef main_v51), ?_⟩
  rw [laid, c2, c4]
  rw [keep16 _ main_v48 (by decide), keep16 _ main_v49 (by decide), keep16 _ main_v50 (by decide), keep16 _ main_v51 (by decide), keep2 _ main_v48 (by decide) (by decide), keep2 _ main_v49 (by decide) (by decide), keep2 _ main_v50 (by decide) (by decide)]
  refine (narrowed _ _ _).trans (cat_at _ _ 1 ?_ (concatenate S2048x512 1 [⟨S2048x128, (U (Proc.tc.devRef main_v48) : FVec Ideal S2048x128 .f32)⟩, ⟨S2048x128, (U (Proc.tc.devRef main_v49) : FVec Ideal S2048x128 .f32)⟩, ⟨S2048x128, (U (Proc.tc.devRef main_v50) : FVec Ideal S2048x128 .f32)⟩, ⟨S2048x128, StableHlo.after (hostOps0_38.take 2) U (Proc.tc.devRef main_v51)⟩] concatenates_S2048x128_S2048x128_S2048x128_S2048x128_S2048x512_d1) ?_ 18432 ?_ d n hn _ _ ?_)
  · simp
  · rfl
  · rfl
  · rfl

end Cert.InProjIdeal.Value

end
-- ==== Proof.InProjPieces.lean ====
/- The pieces of the weights: each is a range of the layer's columns. -/
module

public import proofs.«01_k».proof.Proof.Gen.InProjIdeal.Frame
public import Idealize.ShloMosaic.Lib.Pipeline.ValueKit
public import Idealize.ShloMosaic.Lib.Claim
public import Idealize.ShloMosaic.Lib.StableHlo.ReadAt
public import Idealize.ShloMosaic.Lib.Pointwise
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

namespace Cert.InProjIdeal.Value

open Cert.InProjIdeal Cert.InProjIdeal.Gen

variable (m : (ℓ : Loc nD τ sig) → Buf (Elt Ideal) ℓ)

/-- The buffers before the pieces of the weights are laid side by side. -/
abbrev before (c : Dev nD) : Valuation τ sig (Elt Ideal) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37]) (fun b => m (c, b))

theorem V_before (c : Dev nD) (b : Ref sig .tc) : V m c b = StableHlo.after hostOps0_38 (before m c) (Proc.tc.devRef b) := by
  show StableHlo.after (List.flatten ([hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37] ++ [hostOps0_38])) (fun b => m (c, b)) (Proc.tc.devRef b) = _
  rw [List.flatten_append, StableHlo.after_append, List.flatten_singleton]

theorem piece_0 (c : Dev nD) (d : Fin 2048) (q : ℕ) (hq : q < 8192) :
    (before m c (Proc.tc.devRef main_v32) : FVec Ideal S2048x8192 .f32) (ix2 d ⟨q, by omega⟩) = (m (c, Proc.tc.devRef main_arg3) : FVec Ideal S2048x18432 .f32) (ix2 d ⟨10240 + q, by omega⟩) := by
  unfold before
  unfold hostOps0 hostOps0_1 hostOps0_2 hostOps0_3 hostOps0_4 hostOps0_5 hostOps0_6 hostOps0_7 hostOps0_8 hostOps0_9 hostOps0_10 hostOps0_11 hostOps0_12 hostOps0_13 hostOps0_14 hostOps0_15 hostOps0_16 hostOps0_17 hostOps0_18 hostOps0_19 hostOps0_20 hostOps0_21 hostOps0_22 hostOps0_23 hostOps0_24 hostOps0_25 hostOps0_26 hostOps0_27 hostOps0_28 hostOps0_29 hostOps0_30 hostOps0_31 hostOps0_32 hostOps0_33 hostOps0_34 hostOps0_35 hostOps0_36 hostOps0_37
  simp only [List.flatten_cons, List.flatten_nil, List.cons_append, List.nil_append, List.append_nil]
  entry_read
  simp -implicitDefEqProofs only [StableHlo.TRef.toBuf, StableHlo.TRef.ofBuf, cast_eq]
  refine (pad_apply_of_inside _ _ _ _ _ _ _ _ (ix2 d ⟨q, hq⟩) fun a => by fin_cases a <;> simp [ix2]).trans ?_
  pointwise
  all_goals exact congrArg _ (congrArg (ix2 d) (Fin.ext (by dsimp only; omega)))

theorem piece_1 (c : Dev nD) (d : Fin 2048) (q : ℕ) (hq : q < 1024) :
    (before m c (Proc.tc.devRef main_v33) : FVec Ideal S2048x1024 .f32) (ix2 d ⟨q, by omega⟩) = (m (c, Proc.tc.devRef main_arg3) : FVec Ideal S2048x18432 .f32) (ix2 d ⟨3680 + q, by omega⟩) := by
  unfold before
  unfold hostOps0 hostOps0_1 hostOps0_2 hostOps0_3 hostOps0_4 hostOps0_5 hostOps0_6 hostOps0_7 hostOps0_8 hostOps0_9 hostOps0_10 hostOps0_11 hostOps0_12 hostOps0_13 hostOps0_14 hostOps0_15 hostOps0_16 hostOps0_17 hostOps0_18 hostOps0_19 hostOps0_20 hostOps0_21 hostOps0_22 hostOps0_23 hostOps0_24 hostOps0_25 hostOps0_26 hostOps0_27 hostOps0_28 hostOps0_29 hostOps0_30 hostOps0_31 hostOps0_32 hostOps0_33 hostOps0_34 hostOps0_35 hostOps0_36 hostOps0_37
  simp only [List.flatten_cons, List.flatten_nil, List.cons_append, List.nil_append, List.append_nil]
  entry_read
  simp -implicitDefEqProofs only [StableHlo.TRef.toBuf, StableHlo.TRef.ofBuf, cast_eq]
  refine (pad_apply_of_inside _ _ _ _ _ _ _ _ (ix2 d ⟨q, hq⟩) fun a => by fin_cases a <;> simp [ix2]).trans ?_
  pointwise
  all_goals exact congrArg _ (congrArg (ix2 d) (Fin.ext (by dsimp only; omega)))

theorem piece_2 (c : Dev nD) (d : Fin 2048) (q : ℕ) (hq : q < 1024) :
    (before m c (Proc.tc.devRef main_v34) : FVec Ideal S2048x1024 .f32) (ix2 d ⟨q, by omega⟩) = (m (c, Proc.tc.devRef main_arg3) : FVec Ideal S2048x18432 .f32) (ix2 d ⟨4704 + q, by omega⟩) := by
  unfold before
  unfold hostOps0 hostOps0_1 hostOps0_2 hostOps0_3 hostOps0_4 hostOps0_5 hostOps0_6 hostOps0_7 hostOps0_8 hostOps0_9 hostOps0_10 hostOps0_11 hostOps0_12 hostOps0_13 hostOps0_14 hostOps0_15 hostOps0_16 hostOps0_17 hostOps0_18 hostOps0_19 hostOps0_20 hostOps0_21 hostOps0_22 hostOps0_23 hostOps0_24 hostOps0_25 hostOps0_26 hostOps0_27 hostOps0_28 hostOps0_29 hostOps0_30 hostOps0_31 hostOps0_32 hostOps0_33 hostOps0_34 hostOps0_35 hostOps0_36 hostOps0_37
  simp only [List.flatten_cons, List.flatten_nil, List.cons_append, List.nil_append, List.append_nil]
  entry_read
  simp -implicitDefEqProofs only [StableHlo.TRef.toBuf, StableHlo.TRef.ofBuf, cast_eq]
  refine (pad_apply_of_inside _ _ _ _ _ _ _ _ (ix2 d ⟨q, hq⟩) fun a => by fin_cases a <;> simp [ix2]).trans ?_
  pointwise
  all_goals exact congrArg _ (congrArg (ix2 d) (Fin.ext (by dsimp only; omega)))

theorem piece_3 (c : Dev nD) (d : Fin 2048) (q : ℕ) (hq : q < 1024) :
    (before m c (Proc.tc.devRef main_v35) : FVec Ideal S2048x1024 .f32) (ix2 d ⟨q, by omega⟩) = (m (c, Proc.tc.devRef main_arg3) : FVec Ideal S2048x18432 .f32) (ix2 d ⟨5728 + q, by omega⟩) := by
  unfold before
  unfold hostOps0 hostOps0_1 hostOps0_2 hostOps0_3 hostOps0_4 hostOps0_5 hostOps0_6 hostOps0_7 hostOps0_8 hostOps0_9 hostOps0_10 hostOps0_11 hostOps0_12 hostOps0_13 hostOps0_14 hostOps0_15 hostOps0_16 hostOps0_17 hostOps0_18 hostOps0_19 hostOps0_20 hostOps0_21 hostOps0_22 hostOps0_23 hostOps0_24 hostOps0_25 hostOps0_26 hostOps0_27 hostOps0_28 hostOps0_29 hostOps0_30 hostOps0_31 hostOps0_32 hostOps0_33 hostOps0_34 hostOps0_35 hostOps0_36 hostOps0_37
  simp only [List.flatten_cons, List.flatten_nil, List.cons_append, List.nil_append, List.append_nil]
  entry_read
  simp -implicitDefEqProofs only [StableHlo.TRef.toBuf, StableHlo.TRef.ofBuf, cast_eq]
  refine (pad_apply_of_inside _ _ _ _ _ _ _ _ (ix2 d ⟨q, hq⟩) fun a => by fin_cases a <;> simp [ix2]).trans ?_
  pointwise
  all_goals exact congrArg _ (congrArg (ix2 d) (Fin.ext (by dsimp only; omega)))

theorem piece_4 (c : Dev nD) (d : Fin 2048) (q : ℕ) (hq : q < 1024) :
    (before m c (Proc.tc.devRef main_v36) : FVec Ideal S2048x1024 .f32) (ix2 d ⟨q, by omega⟩) = (m (c, Proc.tc.devRef main_arg3) : FVec Ideal S2048x18432 .f32) (ix2 d ⟨6752 + q, by omega⟩) := by
  unfold before
  unfold hostOps0 hostOps0_1 hostOps0_2 hostOps0_3 hostOps0_4 hostOps0_5 hostOps0_6 hostOps0_7 hostOps0_8 hostOps0_9 hostOps0_10 hostOps0_11 hostOps0_12 hostOps0_13 hostOps0_14 hostOps0_15 hostOps0_16 hostOps0_17 hostOps0_18 hostOps0_19 hostOps0_20 hostOps0_21 hostOps0_22 hostOps0_23 hostOps0_24 hostOps0_25 hostOps0_26 hostOps0_27 hostOps0_28 hostOps0_29 hostOps0_30 hostOps0_31 hostOps0_32 hostOps0_33 hostOps0_34 hostOps0_35 hostOps0_36 hostOps0_37
  simp only [List.flatten_cons, List.flatten_nil, List.cons_append, List.nil_append, List.append_nil]
  entry_read
  simp -implicitDefEqProofs only [StableHlo.TRef.toBuf, StableHlo.TRef.ofBuf, cast_eq]
  refine (pad_apply_of_inside _ _ _ _ _ _ _ _ (ix2 d ⟨q, hq⟩) fun a => by fin_cases a <;> simp [ix2]).trans ?_
  pointwise
  all_goals exact congrArg _ (congrArg (ix2 d) (Fin.ext (by dsimp only; omega)))

theorem piece_5 (c : Dev nD) (d : Fin 2048) (q : ℕ) (hq : q < 1024) :
    (before m c (Proc.tc.devRef main_v37) : FVec Ideal S2048x1024 .f32) (ix2 d ⟨q, by omega⟩) = (m (c, Proc.tc.devRef main_arg3) : FVec Ideal S2048x18432 .f32) (ix2 d ⟨7776 + q, by omega⟩) := by
  unfold before
  unfold hostOps0 hostOps0_1 hostOps0_2 hostOps0_3 hostOps0_4 hostOps0_5 hostOps0_6 hostOps0_7 hostOps0_8 hostOps0_9 hostOps0_10 hostOps0_11 hostOps0_12 hostOps0_13 hostOps0_14 hostOps0_15 hostOps0_16 hostOps0_17 hostOps0_18 hostOps0_19 hostOps0_20 hostOps0_21 hostOps0_22 hostOps0_23 hostOps0_24 hostOps0_25 hostOps0_26 hostOps0_27 hostOps0_28 hostOps0_29 hostOps0_30 hostOps0_31 hostOps0_32 hostOps0_33 hostOps0_34 hostOps0_35 hostOps0_36 hostOps0_37
  simp only [List.flatten_cons, List.flatten_nil, List.cons_append, List.nil_append, List.append_nil]
  entry_read
  simp -implicitDefEqProofs only [StableHlo.TRef.toBuf, StableHlo.TRef.ofBuf, cast_eq]
  refine (pad_apply_of_inside _ _ _ _ _ _ _ _ (ix2 d ⟨q, hq⟩) fun a => by fin_cases a <;> simp [ix2]).trans ?_
  pointwise
  all_goals exact congrArg _ (congrArg (ix2 d) (Fin.ext (by dsimp only; omega)))

theorem piece_6 (c : Dev nD) (d : Fin 2048) (q : ℕ) (hq : q < 1024) :
    (before m c (Proc.tc.devRef main_v38) : FVec Ideal S2048x1024 .f32) (ix2 d ⟨q, by omega⟩) = (m (c, Proc.tc.devRef main_arg3) : FVec Ideal S2048x18432 .f32) (ix2 d ⟨8800 + q, by omega⟩) := by
  unfold before
  unfold hostOps0 hostOps0_1 hostOps0_2 hostOps0_3 hostOps0_4 hostOps0_5 hostOps0_6 hostOps0_7 hostOps0_8 hostOps0_9 hostOps0_10 hostOps0_11 hostOps0_12 hostOps0_13 hostOps0_14 hostOps0_15 hostOps0_16 hostOps0_17 hostOps0_18 hostOps0_19 hostOps0_20 hostOps0_21 hostOps0_22 hostOps0_23 hostOps0_24 hostOps0_25 hostOps0_26 hostOps0_27 hostOps0_28 hostOps0_29 hostOps0_30 hostOps0_31 hostOps0_32 hostOps0_33 hostOps0_34 hostOps0_35 hostOps0_36 hostOps0_37
  simp only [List.flatten_cons, List.flatten_nil, List.cons_append, List.nil_append, List.append_nil]
  entry_read
  simp -implicitDefEqProofs only [StableHlo.TRef.toBuf, StableHlo.TRef.ofBuf, cast_eq]
  refine (pad_apply_of_inside _ _ _ _ _ _ _ _ (ix2 d ⟨q, hq⟩) fun a => by fin_cases a <;> simp [ix2]).trans ?_
  pointwise
  all_goals exact congrArg _ (congrArg (ix2 d) (Fin.ext (by dsimp only; omega)))

theorem piece_7 (c : Dev nD) (d : Fin 2048) (q : ℕ) (hq : q < 1024) :
    (before m c (Proc.tc.devRef main_v39) : FVec Ideal S2048x1024 .f32) (ix2 d ⟨q, by omega⟩) = (m (c, Proc.tc.devRef main_arg3) : FVec Ideal S2048x18432 .f32) (ix2 d ⟨1088 + q, by omega⟩) := by
  unfold before
  unfold hostOps0 hostOps0_1 hostOps0_2 hostOps0_3 hostOps0_4 hostOps0_5 hostOps0_6 hostOps0_7 hostOps0_8 hostOps0_9 hostOps0_10 hostOps0_11 hostOps0_12 hostOps0_13 hostOps0_14 hostOps0_15 hostOps0_16 hostOps0_17 hostOps0_18 hostOps0_19 hostOps0_20 hostOps0_21 hostOps0_22 hostOps0_23 hostOps0_24 hostOps0_25 hostOps0_26 hostOps0_27 hostOps0_28 hostOps0_29 hostOps0_30 hostOps0_31 hostOps0_32 hostOps0_33 hostOps0_34 hostOps0_35 hostOps0_36 hostOps0_37
  simp only [List.flatten_cons, List.flatten_nil, List.cons_append, List.nil_append, List.append_nil]
  entry_read
  simp -implicitDefEqProofs only [StableHlo.TRef.toBuf, StableHlo.TRef.ofBuf, cast_eq]
  refine (pad_apply_of_inside _ _ _ _ _ _ _ _ (ix2 d ⟨q, hq⟩) fun a => by fin_cases a <;> simp [ix2]).trans ?_
  pointwise
  all_goals exact congrArg _ (congrArg (ix2 d) (Fin.ext (by dsimp only; omega)))

theorem piece_8 (c : Dev nD) (d : Fin 2048) (q : ℕ) (hq : q < 1024) :
    (before m c (Proc.tc.devRef main_v40) : FVec Ideal S2048x1024 .f32) (ix2 d ⟨q, by omega⟩) = (m (c, Proc.tc.devRef main_arg3) : FVec Ideal S2048x18432 .f32) (ix2 d ⟨2112 + q, by omega⟩) := by
  unfold before
  unfold hostOps0 hostOps0_1 hostOps0_2 hostOps0_3 hostOps0_4 hostOps0_5 hostOps0_6 hostOps0_7 hostOps0_8 hostOps0_9 hostOps0_10 hostOps0_11 hostOps0_12 hostOps0_13 hostOps0_14 hostOps0_15 hostOps0_16 hostOps0_17 hostOps0_18 hostOps0_19 hostOps0_20 hostOps0_21 hostOps0_22 hostOps0_23 hostOps0_24 hostOps0_25 hostOps0_26 hostOps0_27 hostOps0_28 hostOps0_29 hostOps0_30 hostOps0_31 hostOps0_32 hostOps0_33 hostOps0_34 hostOps0_35 hostOps0_36 hostOps0_37
  simp only [List.flatten_cons, List.flatten_nil, List.cons_append, List.nil_append, List.append_nil]
  entry_read
  simp -implicitDefEqProofs only [StableHlo.TRef.toBuf, StableHlo.TRef.ofBuf, cast_eq]
  refine (pad_apply_of_inside _ _ _ _ _ _ _ _ (ix2 d ⟨q, hq⟩) fun a => by fin_cases a <;> simp [ix2]).trans ?_
  pointwise
  all_goals exact congrArg _ (congrArg (ix2 d) (Fin.ext (by dsimp only; omega)))

theorem piece_9 (c : Dev nD) (d : Fin 2048) (q : ℕ) (hq : q < 512) :
    (before m c (Proc.tc.devRef main_v41) : FVec Ideal S2048x512 .f32) (ix2 d ⟨q, by omega⟩) = (m (c, Proc.tc.devRef main_arg3) : FVec Ideal S2048x18432 .f32) (ix2 d ⟨0 + q, by omega⟩) := by
  unfold before
  unfold hostOps0 hostOps0_1 hostOps0_2 hostOps0_3 hostOps0_4 hostOps0_5 hostOps0_6 hostOps0_7 hostOps0_8 hostOps0_9 hostOps0_10 hostOps0_11 hostOps0_12 hostOps0_13 hostOps0_14 hostOps0_15 hostOps0_16 hostOps0_17 hostOps0_18 hostOps0_19 hostOps0_20 hostOps0_21 hostOps0_22 hostOps0_23 hostOps0_24 hostOps0_25 hostOps0_26 hostOps0_27 hostOps0_28 hostOps0_29 hostOps0_30 hostOps0_31 hostOps0_32 hostOps0_33 hostOps0_34 hostOps0_35 hostOps0_36 hostOps0_37
  simp only [List.flatten_cons, List.flatten_nil, List.cons_append, List.nil_append, List.append_nil]
  entry_read
  simp -implicitDefEqProofs only [StableHlo.TRef.toBuf, StableHlo.TRef.ofBuf, cast_eq]
  refine (pad_apply_of_inside _ _ _ _ _ _ _ _ (ix2 d ⟨q, hq⟩) fun a => by fin_cases a <;> simp [ix2]).trans ?_
  pointwise
  all_goals exact congrArg _ (congrArg (ix2 d) (Fin.ext (by dsimp only; omega)))

theorem piece_10 (c : Dev nD) (d : Fin 2048) (q : ℕ) (hq : q < 512) :
    (before m c (Proc.tc.devRef main_v42) : FVec Ideal S2048x512 .f32) (ix2 d ⟨q, by omega⟩) = (m (c, Proc.tc.devRef main_arg3) : FVec Ideal S2048x18432 .f32) (ix2 d ⟨512 + q, by omega⟩) := by
  unfold before
  unfold hostOps0 hostOps0_1 hostOps0_2 hostOps0_3 hostOps0_4 hostOps0_5 hostOps0_6 hostOps0_7 hostOps0_8 hostOps0_9 hostOps0_10 hostOps0_11 hostOps0_12 hostOps0_13 hostOps0_14 hostOps0_15 hostOps0_16 hostOps0_17 hostOps0_18 hostOps0_19 hostOps0_20 hostOps0_21 hostOps0_22 hostOps0_23 hostOps0_24 hostOps0_25 hostOps0_26 hostOps0_27 hostOps0_28 hostOps0_29 hostOps0_30 hostOps0_31 hostOps0_32 hostOps0_33 hostOps0_34 hostOps0_35 hostOps0_36 hostOps0_37
  simp only [List.flatten_cons, List.flatten_nil, List.cons_append, List.nil_append, List.append_nil]
  entry_read
  simp -implicitDefEqProofs only [StableHlo.TRef.toBuf, StableHlo.TRef.ofBuf, cast_eq]
  refine (pad_apply_of_inside _ _ _ _ _ _ _ _ (ix2 d ⟨q, hq⟩) fun a => by fin_cases a <;> simp [ix2]).trans ?_
  pointwise
  all_goals exact congrArg _ (congrArg (ix2 d) (Fin.ext (by dsimp only; omega)))

theorem piece_11 (c : Dev nD) (d : Fin 2048) (q : ℕ) (hq : q < 256) :
    (before m c (Proc.tc.devRef main_v43) : FVec Ideal S2048x256 .f32) (ix2 d ⟨q, by omega⟩) = (m (c, Proc.tc.devRef main_arg3) : FVec Ideal S2048x18432 .f32) (ix2 d ⟨3136 + q, by omega⟩) := by
  unfold before
  unfold hostOps0 hostOps0_1 hostOps0_2 hostOps0_3 hostOps0_4 hostOps0_5 hostOps0_6 hostOps0_7 hostOps0_8 hostOps0_9 hostOps0_10 hostOps0_11 hostOps0_12 hostOps0_13 hostOps0_14 hostOps0_15 hostOps0_16 hostOps0_17 hostOps0_18 hostOps0_19 hostOps0_20 hostOps0_21 hostOps0_22 hostOps0_23 hostOps0_24 hostOps0_25 hostOps0_26 hostOps0_27 hostOps0_28 hostOps0_29 hostOps0_30 hostOps0_31 hostOps0_32 hostOps0_33 hostOps0_34 hostOps0_35 hostOps0_36 hostOps0_37
  simp only [List.flatten_cons, List.flatten_nil, List.cons_append, List.nil_append, List.append_nil]
  entry_read
  simp -implicitDefEqProofs only [StableHlo.TRef.toBuf, StableHlo.TRef.ofBuf, cast_eq]
  refine (pad_apply_of_inside _ _ _ _ _ _ _ _ (ix2 d ⟨q, hq⟩) fun a => by fin_cases a <;> simp [ix2]).trans ?_
  pointwise
  all_goals exact congrArg _ (congrArg (ix2 d) (Fin.ext (by dsimp only; omega)))

theorem piece_12 (c : Dev nD) (d : Fin 2048) (q : ℕ) (hq : q < 256) :
    (before m c (Proc.tc.devRef main_v44) : FVec Ideal S2048x256 .f32) (ix2 d ⟨q, by omega⟩) = (m (c, Proc.tc.devRef main_arg3) : FVec Ideal S2048x18432 .f32) (ix2 d ⟨3392 + q, by omega⟩) := by
  unfold before
  unfold hostOps0 hostOps0_1 hostOps0_2 hostOps0_3 hostOps0_4 hostOps0_5 hostOps0_6 hostOps0_7 hostOps0_8 hostOps0_9 hostOps0_10 hostOps0_11 hostOps0_12 hostOps0_13 hostOps0_14 hostOps0_15 hostOps0_16 hostOps0_17 hostOps0_18 hostOps0_19 hostOps0_20 hostOps0_21 hostOps0_22 hostOps0_23 hostOps0_24 hostOps0_25 hostOps0_26 hostOps0_27 hostOps0_28 hostOps0_29 hostOps0_30 hostOps0_31 hostOps0_32 hostOps0_33 hostOps0_34 hostOps0_35 hostOps0_36 hostOps0_37
  simp only [List.flatten_cons, List.flatten_nil, List.cons_append, List.nil_append, List.append_nil]
  entry_read
  simp -implicitDefEqProofs only [StableHlo.TRef.toBuf, StableHlo.TRef.ofBuf, cast_eq]
  refine (pad_apply_of_inside _ _ _ _ _ _ _ _ (ix2 d ⟨q, hq⟩) fun a => by fin_cases a <;> simp [ix2]).trans ?_
  pointwise
  all_goals exact congrArg _ (congrArg (ix2 d) (Fin.ext (by dsimp only; omega)))

theorem piece_13 (c : Dev nD) (d : Fin 2048) (q : ℕ) (hq : q < 160) :
    (before m c (Proc.tc.devRef main_v45) : FVec Ideal S2048x256 .f32) (ix2 d ⟨q, by omega⟩) = (m (c, Proc.tc.devRef main_arg3) : FVec Ideal S2048x18432 .f32) (ix2 d ⟨10080 + q, by omega⟩) := by
  unfold before
  unfold hostOps0 hostOps0_1 hostOps0_2 hostOps0_3 hostOps0_4 hostOps0_5 hostOps0_6 hostOps0_7 hostOps0_8 hostOps0_9 hostOps0_10 hostOps0_11 hostOps0_12 hostOps0_13 hostOps0_14 hostOps0_15 hostOps0_16 hostOps0_17 hostOps0_18 hostOps0_19 hostOps0_20 hostOps0_21 hostOps0_22 hostOps0_23 hostOps0_24 hostOps0_25 hostOps0_26 hostOps0_27 hostOps0_28 hostOps0_29 hostOps0_30 hostOps0_31 hostOps0_32 hostOps0_33 hostOps0_34 hostOps0_35 hostOps0_36 hostOps0_37
  simp only [List.flatten_cons, List.flatten_nil, List.cons_append, List.nil_append, List.append_nil]
  entry_read
  simp -implicitDefEqProofs only [StableHlo.TRef.toBuf, StableHlo.TRef.ofBuf, cast_eq]
  refine (pad_apply_of_inside _ _ _ _ _ _ _ _ (ix2 d ⟨q, hq⟩) fun a => by fin_cases a <;> simp [ix2]).trans ?_
  pointwise
  all_goals exact congrArg _ (congrArg (ix2 d) (Fin.ext (by dsimp only; omega)))

theorem piece_14 (c : Dev nD) (d : Fin 2048) (q : ℕ) (hq : q < 128) :
    (before m c (Proc.tc.devRef main_v46) : FVec Ideal S2048x128 .f32) (ix2 d ⟨q, by omega⟩) = (m (c, Proc.tc.devRef main_arg3) : FVec Ideal S2048x18432 .f32) (ix2 d ⟨9824 + q, by omega⟩) := by
  unfold before
  unfold hostOps0 hostOps0_1 hostOps0_2 hostOps0_3 hostOps0_4 hostOps0_5 hostOps0_6 hostOps0_7 hostOps0_8 hostOps0_9 hostOps0_10 hostOps0_11 hostOps0_12 hostOps0_13 hostOps0_14 hostOps0_15 hostOps0_16 hostOps0_17 hostOps0_18 hostOps0_19 hostOps0_20 hostOps0_21 hostOps0_22 hostOps0_23 hostOps0_24 hostOps0_25 hostOps0_26 hostOps0_27 hostOps0_28 hostOps0_29 hostOps0_30 hostOps0_31 hostOps0_32 hostOps0_33 hostOps0_34 hostOps0_35 hostOps0_36 hostOps0_37
  simp only [List.flatten_cons, List.flatten_nil, List.cons_append, List.nil_append, List.append_nil]
  entry_read
  simp -implicitDefEqProofs only [StableHlo.TRef.toBuf, StableHlo.TRef.ofBuf, cast_eq]
  refine (pad_apply_of_inside _ _ _ _ _ _ _ _ (ix2 d ⟨q, hq⟩) fun a => by fin_cases a <;> simp [ix2]).trans ?_
  pointwise
  all_goals exact congrArg _ (congrArg (ix2 d) (Fin.ext (by dsimp only; omega)))

theorem piece_15 (c : Dev nD) (d : Fin 2048) (q : ℕ) (hq : q < 128) :
    (before m c (Proc.tc.devRef main_v47) : FVec Ideal S2048x128 .f32) (ix2 d ⟨q, by omega⟩) = (m (c, Proc.tc.devRef main_arg3) : FVec Ideal S2048x18432 .f32) (ix2 d ⟨9952 + q, by omega⟩) := by
  unfold before
  unfold hostOps0 hostOps0_1 hostOps0_2 hostOps0_3 hostOps0_4 hostOps0_5 hostOps0_6 hostOps0_7 hostOps0_8 hostOps0_9 hostOps0_10 hostOps0_11 hostOps0_12 hostOps0_13 hostOps0_14 hostOps0_15 hostOps0_16 hostOps0_17 hostOps0_18 hostOps0_19 hostOps0_20 hostOps0_21 hostOps0_22 hostOps0_23 hostOps0_24 hostOps0_25 hostOps0_26 hostOps0_27 hostOps0_28 hostOps0_29 hostOps0_30 hostOps0_31 hostOps0_32 hostOps0_33 hostOps0_34 hostOps0_35 hostOps0_36 hostOps0_37
  simp only [List.flatten_cons, List.flatten_nil, List.cons_append, List.nil_append, List.append_nil]
  entry_read
  simp -implicitDefEqProofs only [StableHlo.TRef.toBuf, StableHlo.TRef.ofBuf, cast_eq]
  refine (pad_apply_of_inside _ _ _ _ _ _ _ _ (ix2 d ⟨q, hq⟩) fun a => by fin_cases a <;> simp [ix2]).trans ?_
  pointwise
  all_goals exact congrArg _ (congrArg (ix2 d) (Fin.ext (by dsimp only; omega)))

theorem piece_16 (c : Dev nD) (d : Fin 2048) (q : ℕ) (hq : q < 64) :
    (before m c (Proc.tc.devRef main_v48) : FVec Ideal S2048x128 .f32) (ix2 d ⟨q, by omega⟩) = (m (c, Proc.tc.devRef main_arg3) : FVec Ideal S2048x18432 .f32) (ix2 d ⟨1024 + q, by omega⟩) := by
  unfold before
  unfold hostOps0 hostOps0_1 hostOps0_2 hostOps0_3 hostOps0_4 hostOps0_5 hostOps0_6 hostOps0_7 hostOps0_8 hostOps0_9 hostOps0_10 hostOps0_11 hostOps0_12 hostOps0_13 hostOps0_14 hostOps0_15 hostOps0_16 hostOps0_17 hostOps0_18 hostOps0_19 hostOps0_20 hostOps0_21 hostOps0_22 hostOps0_23 hostOps0_24 hostOps0_25 hostOps0_26 hostOps0_27 hostOps0_28 hostOps0_29 hostOps0_30 hostOps0_31 hostOps0_32 hostOps0_33 hostOps0_34 hostOps0_35 hostOps0_36 hostOps0_37
  simp only [List.flatten_cons, List.flatten_nil, List.cons_append, List.nil_append, List.append_nil]
  entry_read
  simp -implicitDefEqProofs only [StableHlo.TRef.toBuf, StableHlo.TRef.ofBuf, cast_eq]
  refine (pad_apply_of_inside _ _ _ _ _ _ _ _ (ix2 d ⟨q, hq⟩) fun a => by fin_cases a <;> simp [ix2]).trans ?_
  pointwise
  all_goals exact congrArg _ (congrArg (ix2 d) (Fin.ext (by dsimp only; omega)))

theorem piece_18 (c : Dev nD) (d : Fin 2048) (q : ℕ) (hq : q < 32) :
    (before m c (Proc.tc.devRef main_v50) : FVec Ideal S2048x128 .f32) (ix2 d ⟨q, by omega⟩) = (m (c, Proc.tc.devRef main_arg3) : FVec Ideal S2048x18432 .f32) (ix2 d ⟨3648 + q, by omega⟩) := by
  unfold before
  unfold hostOps0 hostOps0_1 hostOps0_2 hostOps0_3 hostOps0_4 hostOps0_5 hostOps0_6 hostOps0_7 hostOps0_8 hostOps0_9 hostOps0_10 hostOps0_11 hostOps0_12 hostOps0_13 hostOps0_14 hostOps0_15 hostOps0_16 hostOps0_17 hostOps0_18 hostOps0_19 hostOps0_20 hostOps0_21 hostOps0_22 hostOps0_23 hostOps0_24 hostOps0_25 hostOps0_26 hostOps0_27 hostOps0_28 hostOps0_29 hostOps0_30 hostOps0_31 hostOps0_32 hostOps0_33 hostOps0_34 hostOps0_35 hostOps0_36 hostOps0_37
  simp only [List.flatten_cons, List.flatten_nil, List.cons_append, List.nil_append, List.append_nil]
  entry_read
  simp -implicitDefEqProofs only [StableHlo.TRef.toBuf, StableHlo.TRef.ofBuf, cast_eq]
  refine (pad_apply_of_inside _ _ _ _ _ _ _ _ (ix2 d ⟨q, hq⟩) fun a => by fin_cases a <;> simp [ix2]).trans ?_
  pointwise
  all_goals exact congrArg _ (congrArg (ix2 d) (Fin.ext (by dsimp only; omega)))

end Cert.InProjIdeal.Value

end
-- ==== Proof.InProjShaped.lean ====
/- What is done with the input projection's array after the call: its columns back in the layer's order. -/
module

public import proofs.«01_k».proof.Proof.Gen.InProjIdeal.Frame
public import Idealize.ShloMosaic.Lib.Pipeline.ValueKit
public import Idealize.ShloMosaic.Lib.Claim
public import Idealize.ShloMosaic.Lib.StableHlo.ReadAt
public import Idealize.ShloMosaic.Lib.Pointwise
public import Idealize.ShloMosaic.Lib.KernelVsHost
public import proofs.«01_k».proof.Proof.InProjCat

@[expose] public section

set_option maxRecDepth 16384

noncomputable section

open Idealize.ShloMosaic Idealize.ShloMosaic.TcCoe Idealize.SL.Sem
open Idealize.ShloMosaic.Pipeline (Dat)

namespace Cert.InProjIdeal.Value

open Cert.InProjIdeal Cert.InProjIdeal.Gen

/-- The call's columns in the layer's order. -/
def inOrder (X : FVec Ideal S16384x18944 .bf16) : FVec Ideal S2x8192x18432 .bf16 :=
  shapeCast S2x8192x18432 (concatenate S16384x18432 1 [⟨S16384x1024, extractStridedSlice S16384x1024 ![0, 16384] X slices_S16384x18944_S16384x1024_0_16384⟩, ⟨S16384x64, extractStridedSlice S16384x64 ![0, 18432] X slices_S16384x18944_S16384x64_0_18432⟩, ⟨S16384x2048, extractStridedSlice S16384x2048 ![0, 14336] X slices_S16384x18944_S16384x2048_0_14336⟩, ⟨S16384x512, extractStridedSlice S16384x512 ![0, 17408] X slices_S16384x18944_S16384x512_0_17408⟩, ⟨S16384x32, extractStridedSlice S16384x32 ![0, 18688] X slices_S16384x18944_S16384x32_0_18688⟩, ⟨S16384x3072, extractStridedSlice S16384x3072 ![0, 8192] X slices_S16384x18944_S16384x3072_0_8192⟩, ⟨S16384x3072, extractStridedSlice S16384x3072 ![0, 11264] X slices_S16384x18944_S16384x3072_0_11264⟩, ⟨S16384x256, extractStridedSlice S16384x256 ![0, 18176] X slices_S16384x18944_S16384x256_0_18176⟩, ⟨S16384x160, extractStridedSlice S16384x160 ![0, 17920] X slices_S16384x18944_S16384x160_0_17920⟩, ⟨S16384x8192, extractStridedSlice S16384x8192 ![0, 0] X slices_S16384x18944_S16384x8192_0_0⟩] concatenates_S16384x1024_S16384x64_S16384x2048_S16384x512_S16384x32_S16384x3072_S16384x3072_S16384x256_S16384x160_S16384x8192_S16384x18432_d1 : FVec Ideal S16384x18432 .bf16) shapeCasts_S16384x18432_S2x8192x18432

theorem token_at (Y : FVec Ideal S16384x18432 .bf16) (b : Fin 2) (l : Fin 8192) (j : Fin 18432) :
    shapeCast S2x8192x18432 Y shapeCasts_S16384x18432_S2x8192x18432 (ix3 b l j) = Y (ix2 ⟨b.val * 8192 + l.val, by omega⟩ j) := by
  pointwise

theorem inOrder_0 (X : FVec Ideal S16384x18944 .bf16) (b : Fin 2) (l : Fin 8192) (q : ℕ) (hq : q < 1024) :
    inOrder X (ix3 b l ⟨0 + q, by omega⟩) = X (ix2 ⟨b.val * 8192 + l.val, by omega⟩ ⟨16384 + q, by omega⟩) := by
  unfold inOrder
  rw [token_at]
  refine Eq.trans (b := extractStridedSlice S16384x1024 ![0, 16384] X slices_S16384x18944_S16384x1024_0_16384 (ix2 ⟨b.val * 8192 + l.val, by omega⟩ ⟨q, hq⟩)) ?_ (by pointwise)
  refine cat_at _ _ 0 ?_ (extractStridedSlice S16384x1024 ![0, 16384] X slices_S16384x18944_S16384x1024_0_16384) ?_ 0 ?_ _ q hq _ _ ?_
  · simp
  · rfl
  · simp
  · rfl

theorem inOrder_1 (X : FVec Ideal S16384x18944 .bf16) (b : Fin 2) (l : Fin 8192) (q : ℕ) (hq : q < 64) :
    inOrder X (ix3 b l ⟨1024 + q, by omega⟩) = X (ix2 ⟨b.val * 8192 + l.val, by omega⟩ ⟨18432 + q, by omega⟩) := by
  unfold inOrder
  rw [token_at]
  refine Eq.trans (b := extractStridedSlice S16384x64 ![0, 18432] X slices_S16384x18944_S16384x64_0_18432 (ix2 ⟨b.val * 8192 + l.val, by omega⟩ ⟨q, hq⟩)) ?_ (by pointwise)
  refine cat_at _ _ 1 ?_ (extractStridedSlice S16384x64 ![0, 18432] X slices_S16384x18944_S16384x64_0_18432) ?_ 1024 ?_ _ q hq _ _ ?_
  · simp
  · rfl
  · simp
  · rfl

theorem inOrder_2 (X : FVec Ideal S16384x18944 .bf16) (b : Fin 2) (l : Fin 8192) (q : ℕ) (hq : q < 2048) :
    inOrder X (ix3 b l ⟨1088 + q, by omega⟩) = X (ix2 ⟨b.val * 8192 + l.val, by omega⟩ ⟨14336 + q, by omega⟩) := by
  unfold inOrder
  rw [token_at]
  refine Eq.trans (b := extractStridedSlice S16384x2048 ![0, 14336] X slices_S16384x18944_S16384x2048_0_14336 (ix2 ⟨b.val * 8192 + l.val, by omega⟩ ⟨q, hq⟩)) ?_ (by pointwise)
  refine cat_at _ _ 2 ?_ (extractStridedSlice S16384x2048 ![0, 14336] X slices_S16384x18944_S16384x2048_0_14336) ?_ 1088 ?_ _ q hq _ _ ?_
  · simp
  · rfl
  · simp
  · rfl

theorem inOrder_3 (X : FVec Ideal S16384x18944 .bf16) (b : Fin 2) (l : Fin 8192) (q : ℕ) (hq : q < 512) :
    inOrder X (ix3 b l ⟨3136 + q, by omega⟩) = X (ix2 ⟨b.val * 8192 + l.val, by omega⟩ ⟨17408 + q, by omega⟩) := by
  unfold inOrder
  rw [token_at]
  refine Eq.trans (b := extractStridedSlice S16384x512 ![0, 17408] X slices_S16384x18944_S16384x512_0_17408 (ix2 ⟨b.val * 8192 + l.val, by omega⟩ ⟨q, hq⟩)) ?_ (by pointwise)
  refine cat_at _ _ 3 ?_ (extractStridedSlice S16384x512 ![0, 17408] X slices_S16384x18944_S16384x512_0_17408) ?_ 3136 ?_ _ q hq _ _ ?_
  · simp
  · rfl
  · simp
  · rfl

theorem inOrder_4 (X : FVec Ideal S16384x18944 .bf16) (b : Fin 2) (l : Fin 8192) (q : ℕ) (hq : q < 32) :
    inOrder X (ix3 b l ⟨3648 + q, by omega⟩) = X (ix2 ⟨b.val * 8192 + l.val, by omega⟩ ⟨18688 + q, by omega⟩) := by
  unfold inOrder
  rw [token_at]
  refine Eq.trans (b := extractStridedSlice S16384x32 ![0, 18688] X slices_S16384x18944_S16384x32_0_18688 (ix2 ⟨b.val * 8192 + l.val, by omega⟩ ⟨q, hq⟩)) ?_ (by pointwise)
  refine cat_at _ _ 4 ?_ (extractStridedSlice S16384x32 ![0, 18688] X slices_S16384x18944_S16384x32_0_18688) ?_ 3648 ?_ _ q hq _ _ ?_
  · simp
  · rfl
  · simp
  · rfl

theorem inOrder_5 (X : FVec Ideal S16384x18944 .bf16) (b : Fin 2) (l : Fin 8192) (q : ℕ) (hq : q < 3072) :
    inOrder X (ix3 b l ⟨3680 + q, by omega⟩) = X (ix2 ⟨b.val * 8192 + l.val, by omega⟩ ⟨8192 + q, by omega⟩) := by
  unfold inOrder
  rw [token_at]
  refine Eq.trans (b := extractStridedSlice S16384x3072 ![0, 8192] X slices_S16384x18944_S16384x3072_0_8192 (ix2 ⟨b.val * 8192 + l.val, by omega⟩ ⟨q, hq⟩)) ?_ (by pointwise)
  refine cat_at _ _ 5 ?_ (extractStridedSlice S16384x3072 ![0, 8192] X slices_S16384x18944_S16384x3072_0_8192) ?_ 3680 ?_ _ q hq _ _ ?_
  · simp
  · rfl
  · simp
  · rfl

theorem inOrder_6 (X : FVec Ideal S16384x18944 .bf16) (b : Fin 2) (l : Fin 8192) (q : ℕ) (hq : q < 3072) :
    inOrder X (ix3 b l ⟨6752 + q, by omega⟩) = X (ix2 ⟨b.val * 8192 + l.val, by omega⟩ ⟨11264 + q, by omega⟩) := by
  unfold inOrder
  rw [token_at]
  refine Eq.trans (b := extractStridedSlice S16384x3072 ![0, 11264] X slices_S16384x18944_S16384x3072_0_11264 (ix2 ⟨b.val * 8192 + l.val, by omega⟩ ⟨q, hq⟩)) ?_ (by pointwise)
  refine cat_at _ _ 6 ?_ (extractStridedSlice S16384x3072 ![0, 11264] X slices_S16384x18944_S16384x3072_0_11264) ?_ 6752 ?_ _ q hq _ _ ?_
  · simp
  · rfl
  · simp
  · rfl

theorem inOrder_7 (X : FVec Ideal S16384x18944 .bf16) (b : Fin 2) (l : Fin 8192) (q : ℕ) (hq : q < 256) :
    inOrder X (ix3 b l ⟨9824 + q, by omega⟩) = X (ix2 ⟨b.val * 8192 + l.val, by omega⟩ ⟨18176 + q, by omega⟩) := by
  unfold inOrder
  rw [token_at]
  refine Eq.trans (b := extractStridedSlice S16384x256 ![0, 18176] X slices_S16384x18944_S16384x256_0_18176 (ix2 ⟨b.val * 8192 + l.val, by omega⟩ ⟨q, hq⟩)) ?_ (by pointwise)
  refine cat_at _ _ 7 ?_ (extractStridedSlice S16384x256 ![0, 18176] X slices_S16384x18944_S16384x256_0_18176) ?_ 9824 ?_ _ q hq _ _ ?_
  · simp
  · rfl
  · simp
  · rfl

theorem inOrder_8 (X : FVec Ideal S16384x18944 .bf16) (b : Fin 2) (l : Fin 8192) (q : ℕ) (hq : q < 160) :
    inOrder X (ix3 b l ⟨10080 + q, by omega⟩) = X (ix2 ⟨b.val * 8192 + l.val, by omega⟩ ⟨17920 + q, by omega⟩) := by
  unfold inOrder
  rw [token_at]
  refine Eq.trans (b := extractStridedSlice S16384x160 ![0, 17920] X slices_S16384x18944_S16384x160_0_17920 (ix2 ⟨b.val * 8192 + l.val, by omega⟩ ⟨q, hq⟩)) ?_ (by pointwise)
  refine cat_at _ _ 8 ?_ (extractStridedSlice S16384x160 ![0, 17920] X slices_S16384x18944_S16384x160_0_17920) ?_ 10080 ?_ _ q hq _ _ ?_
  · simp
  · rfl
  · simp
  · rfl

theorem inOrder_9 (X : FVec Ideal S16384x18944 .bf16) (b : Fin 2) (l : Fin 8192) (q : ℕ) (hq : q < 8192) :
    inOrder X (ix3 b l ⟨10240 + q, by omega⟩) = X (ix2 ⟨b.val * 8192 + l.val, by omega⟩ ⟨0 + q, by omega⟩) := by
  unfold inOrder
  rw [token_at]
  refine Eq.trans (b := extractStridedSlice S16384x8192 ![0, 0] X slices_S16384x18944_S16384x8192_0_0 (ix2 ⟨b.val * 8192 + l.val, by omega⟩ ⟨q, hq⟩)) ?_ (by pointwise)
  refine cat_at _ _ 9 ?_ (extractStridedSlice S16384x8192 ![0, 0] X slices_S16384x18944_S16384x8192_0_0) ?_ 10240 ?_ _ q hq _ _ ?_
  · simp
  · rfl
  · simp
  · rfl

theorem cut_0 (W : Valuation τ sig (Elt Ideal)) : StableHlo.after (hostOps1.take 10) W (Proc.tc.devRef main_v57)
    = extractStridedSlice S16384x1024 ![0, 16384] (W (Proc.tc.devRef main_v56) : FVec Ideal S16384x18944 .bf16) slices_S16384x18944_S16384x1024_0_16384 := by
  unfold hostOps1
  simp only [List.take_succ_cons, List.take_zero]
  after_results

theorem cut_1 (W : Valuation τ sig (Elt Ideal)) : StableHlo.after (hostOps1.take 10) W (Proc.tc.devRef main_v58)
    = extractStridedSlice S16384x64 ![0, 18432] (W (Proc.tc.devRef main_v56) : FVec Ideal S16384x18944 .bf16) slices_S16384x18944_S16384x64_0_18432 := by
  unfold hostOps1
  simp only [List.take_succ_cons, List.take_zero]
  after_results

theorem cut_2 (W : Valuation τ sig (Elt Ideal)) : StableHlo.after (hostOps1.take 10) W (Proc.tc.devRef main_v59)
    = extractStridedSlice S16384x2048 ![0, 14336] (W (Proc.tc.devRef main_v56) : FVec Ideal S16384x18944 .bf16) slices_S16384x18944_S16384x2048_0_14336 := by
  unfold hostOps1
  simp only [List.take_succ_cons, List.take_zero]
  after_results

theorem cut_3 (W : Valuation τ sig (Elt Ideal)) : StableHlo.after (hostOps1.take 10) W (Proc.tc.devRef main_v60)
    = extractStridedSlice S16384x512 ![0, 17408] (W (Proc.tc.devRef main_v56) : FVec Ideal S16384x18944 .bf16) slices_S16384x18944_S16384x512_0_17408 := by
  unfold hostOps1
  simp only [List.take_succ_cons, List.take_zero]
  after_results

theorem cut_4 (W : Valuation τ sig (Elt Ideal)) : StableHlo.after (hostOps1.take 10) W (Proc.tc.devRef main_v61)
    = extractStridedSlice S16384x32 ![0, 18688] (W (Proc.tc.devRef main_v56) : FVec Ideal S16384x18944 .bf16) slices_S16384x18944_S16384x32_0_18688 := by
  unfold hostOps1
  simp only [List.take_succ_cons, List.take_zero]
  after_results

theorem cut_5 (W : Valuation τ sig (Elt Ideal)) : StableHlo.after (hostOps1.take 10) W (Proc.tc.devRef main_v62)
    = extractStridedSlice S16384x3072 ![0, 8192] (W (Proc.tc.devRef main_v56) : FVec Ideal S16384x18944 .bf16) slices_S16384x18944_S16384x3072_0_8192 := by
  unfold hostOps1
  simp only [List.take_succ_cons, List.take_zero]
  after_results

theorem cut_6 (W : Valuation τ sig (Elt Ideal)) : StableHlo.after (hostOps1.take 10) W (Proc.tc.devRef main_v63)
    = extractStridedSlice S16384x3072 ![0, 11264] (W (Proc.tc.devRef main_v56) : FVec Ideal S16384x18944 .bf16) slices_S16384x18944_S16384x3072_0_11264 := by
  unfold hostOps1
  simp only [List.take_succ_cons, List.take_zero]
  after_results

theorem cut_7 (W : Valuation τ sig (Elt Ideal)) : StableHlo.after (hostOps1.take 10) W (Proc.tc.devRef main_v64)
    = extractStridedSlice S16384x256 ![0, 18176] (W (Proc.tc.devRef main_v56) : FVec Ideal S16384x18944 .bf16) slices_S16384x18944_S16384x256_0_18176 := by
  unfold hostOps1
  simp only [List.take_succ_cons, List.take_zero]
  after_results

theorem cut_8 (W : Valuation τ sig (Elt Ideal)) : StableHlo.after (hostOps1.take 10) W (Proc.tc.devRef main_v65)
    = extractStridedSlice S16384x160 ![0, 17920] (W (Proc.tc.devRef main_v56) : FVec Ideal S16384x18944 .bf16) slices_S16384x18944_S16384x160_0_17920 := by
  unfold hostOps1
  simp only [List.take_succ_cons, List.take_zero]
  after_results

theorem cut_9 (W : Valuation τ sig (Elt Ideal)) : StableHlo.after (hostOps1.take 10) W (Proc.tc.devRef main_v66)
    = extractStridedSlice S16384x8192 ![0, 0] (W (Proc.tc.devRef main_v56) : FVec Ideal S16384x18944 .bf16) slices_S16384x18944_S16384x8192_0_0 := by
  unfold hostOps1
  simp only [List.take_succ_cons, List.take_zero]
  after_results

theorem gathered (W : Valuation τ sig (Elt Ideal)) :
    StableHlo.after (hostOps1.drop 10) W (Proc.tc.devRef main_v68)
      = shapeCast S2x8192x18432 (concatenate S16384x18432 1 [⟨S16384x1024, (W (Proc.tc.devRef main_v57) : FVec Ideal S16384x1024 .bf16)⟩, ⟨S16384x64, (W (Proc.tc.devRef main_v58) : FVec Ideal S16384x64 .bf16)⟩, ⟨S16384x2048, (W (Proc.tc.devRef main_v59) : FVec Ideal S16384x2048 .bf16)⟩, ⟨S16384x512, (W (Proc.tc.devRef main_v60) : FVec Ideal S16384x512 .bf16)⟩, ⟨S16384x32, (W (Proc.tc.devRef main_v61) : FVec Ideal S16384x32 .bf16)⟩, ⟨S16384x3072, (W (Proc.tc.devRef main_v62) : FVec Ideal S16384x3072 .bf16)⟩, ⟨S16384x3072, (W (Proc.tc.devRef main_v63) : FVec Ideal S16384x3072 .bf16)⟩, ⟨S16384x256, (W (Proc.tc.devRef main_v64) : FVec Ideal S16384x256 .bf16)⟩, ⟨S16384x160, (W (Proc.tc.devRef main_v65) : FVec Ideal S16384x160 .bf16)⟩, ⟨S16384x8192, (W (Proc.tc.devRef main_v66) : FVec Ideal S16384x8192 .bf16)⟩] concatenates_S16384x1024_S16384x64_S16384x2048_S16384x512_S16384x32_S16384x3072_S16384x3072_S16384x256_S16384x160_S16384x8192_S16384x18432_d1 : FVec Ideal S16384x18432 .bf16) shapeCasts_S16384x18432_S2x8192x18432 := by
  unfold hostOps1
  simp only [List.drop_succ_cons, List.drop_zero]
  rw [StableHlo.after_cons, StableHlo.after_cons, StableHlo.after_nil, StableHlo.reshape_result, StableHlo.nary_result]
  rfl

/-- The result, from the call's array. -/
theorem shaped (W : Valuation τ sig (Elt Ideal)) :
    StableHlo.after hostOps1 W (Proc.tc.devRef main_v68) = inOrder (W (Proc.tc.devRef main_v56)) := by
  refine (show _ = StableHlo.after (hostOps1.drop 10) (StableHlo.after (hostOps1.take 10) W) (Proc.tc.devRef main_v68) from rfl).trans ?_
  rw [gathered]
  rw [cut_0, cut_1, cut_2, cut_3, cut_4, cut_5, cut_6, cut_7, cut_8, cut_9]
  rfl

end Cert.InProjIdeal.Value

end
-- ==== Proof.InProjColumns.lean ====
/- Every column of the layer, found among the call's. -/
module

public import proofs.«01_k».proof.Proof.InProjArray
public import proofs.«01_k».proof.Proof.InProjLaid
public import proofs.«01_k».proof.Proof.InProjPieces
public import proofs.«01_k».proof.Proof.InProjShaped

@[expose] public section

set_option maxRecDepth 16384

noncomputable section

open Idealize.ShloMosaic Idealize.ShloMosaic.TcCoe Idealize.SL.Sem
open Idealize.ShloMosaic.Pipeline (Dat)

namespace Cert.InProjIdeal.Value

open Cert.InProjIdeal Cert.InProjIdeal.Gen

variable (m : (ℓ : Loc nD τ sig) → Buf (Elt Ideal) ℓ) (c : Dev nD)

theorem col_0 (d : Fin 2048) (q : ℕ) (hq : q < 8192) :
    (V m c main_v55 : FVec Ideal S2048x18944 .bf16) (ix2 d ⟨0 + q, by omega⟩) = (m (c, Proc.tc.devRef main_arg3) : FVec Ideal S2048x18432 .f32) (ix2 d ⟨10240 + q, by omega⟩) := by
  refine (congrFun (V_before m c main_v55) _).trans ((laid_left (before m c) d (0 + q) (by omega)).trans ?_)
  refine (cat_at _ _ 0 ?_ (before m c (Proc.tc.devRef main_v32) : FVec Ideal S2048x8192 .f32) ?_ 0 ?_ d q (by omega) _ _ ?_).trans (piece_0 m c d q hq)
  · simp
  · rfl
  · simp
  · omega

theorem col_1 (d : Fin 2048) (q : ℕ) (hq : q < 1024) :
    (V m c main_v55 : FVec Ideal S2048x18944 .bf16) (ix2 d ⟨8192 + q, by omega⟩) = (m (c, Proc.tc.devRef main_arg3) : FVec Ideal S2048x18432 .f32) (ix2 d ⟨3680 + q, by omega⟩) := by
  refine (congrFun (V_before m c main_v55) _).trans ((laid_left (before m c) d (8192 + q) (by omega)).trans ?_)
  refine (cat_at _ _ 1 ?_ (before m c (Proc.tc.devRef main_v33) : FVec Ideal S2048x1024 .f32) ?_ 8192 ?_ d q (by omega) _ _ ?_).trans (piece_1 m c d q hq)
  · simp
  · rfl
  · simp
  · omega

theorem col_2 (d : Fin 2048) (q : ℕ) (hq : q < 1024) :
    (V m c main_v55 : FVec Ideal S2048x18944 .bf16) (ix2 d ⟨9216 + q, by omega⟩) = (m (c, Proc.tc.devRef main_arg3) : FVec Ideal S2048x18432 .f32) (ix2 d ⟨4704 + q, by omega⟩) := by
  refine (congrFun (V_before m c main_v55) _).trans ((laid_left (before m c) d (9216 + q) (by omega)).trans ?_)
  refine (cat_at _ _ 2 ?_ (before m c (Proc.tc.devRef main_v34) : FVec Ideal S2048x1024 .f32) ?_ 9216 ?_ d q (by omega) _ _ ?_).trans (piece_2 m c d q hq)
  · simp
  · rfl
  · simp
  · omega

theorem col_3 (d : Fin 2048) (q : ℕ) (hq : q < 1024) :
    (V m c main_v55 : FVec Ideal S2048x18944 .bf16) (ix2 d ⟨10240 + q, by omega⟩) = (m (c, Proc.tc.devRef main_arg3) : FVec Ideal S2048x18432 .f32) (ix2 d ⟨5728 + q, by omega⟩) := by
  refine (congrFun (V_before m c main_v55) _).trans ((laid_left (before m c) d (10240 + q) (by omega)).trans ?_)
  refine (cat_at _ _ 3 ?_ (before m c (Proc.tc.devRef main_v35) : FVec Ideal S2048x1024 .f32) ?_ 10240 ?_ d q (by omega) _ _ ?_).trans (piece_3 m c d q hq)
  · simp
  · rfl
  · simp
  · omega

theorem col_4 (d : Fin 2048) (q : ℕ) (hq : q < 1024) :
    (V m c main_v55 : FVec Ideal S2048x18944 .bf16) (ix2 d ⟨11264 + q, by omega⟩) = (m (c, Proc.tc.devRef main_arg3) : FVec Ideal S2048x18432 .f32) (ix2 d ⟨6752 + q, by omega⟩) := by
  refine (congrFun (V_before m c main_v55) _).trans ((laid_left (before m c) d (11264 + q) (by omega)).trans ?_)
  refine (cat_at _ _ 4 ?_ (before m c (Proc.tc.devRef main_v36) : FVec Ideal S2048x1024 .f32) ?_ 11264 ?_ d q (by omega) _ _ ?_).trans (piece_4 m c d q hq)
  · simp
  · rfl
  · simp
  · omega

theorem col_5 (d : Fin 2048) (q : ℕ) (hq : q < 1024) :
    (V m c main_v55 : FVec Ideal S2048x18944 .bf16) (ix2 d ⟨12288 + q, by omega⟩) = (m (c, Proc.tc.devRef main_arg3) : FVec Ideal S2048x18432 .f32) (ix2 d ⟨7776 + q, by omega⟩) := by
  refine (congrFun (V_before m c main_v55) _).trans ((laid_left (before m c) d (12288 + q) (by omega)).trans ?_)
  refine (cat_at _ _ 5 ?_ (before m c (Proc.tc.devRef main_v37) : FVec Ideal S2048x1024 .f32) ?_ 12288 ?_ d q (by omega) _ _ ?_).trans (piece_5 m c d q hq)
  · simp
  · rfl
  · simp
  · omega

theorem col_6 (d : Fin 2048) (q : ℕ) (hq : q < 1024) :
    (V m c main_v55 : FVec Ideal S2048x18944 .bf16) (ix2 d ⟨13312 + q, by omega⟩) = (m (c, Proc.tc.devRef main_arg3) : FVec Ideal S2048x18432 .f32) (ix2 d ⟨8800 + q, by omega⟩) := by
  refine (congrFun (V_before m c main_v55) _).trans ((laid_left (before m c) d (13312 + q) (by omega)).trans ?_)
  refine (cat_at _ _ 6 ?_ (before m c (Proc.tc.devRef main_v38) : FVec Ideal S2048x1024 .f32) ?_ 13312 ?_ d q (by omega) _ _ ?_).trans (piece_6 m c d q hq)
  · simp
  · rfl
  · simp
  · omega

theorem col_7 (d : Fin 2048) (q : ℕ) (hq : q < 1024) :
    (V m c main_v55 : FVec Ideal S2048x18944 .bf16) (ix2 d ⟨14336 + q, by omega⟩) = (m (c, Proc.tc.devRef main_arg3) : FVec Ideal S2048x18432 .f32) (ix2 d ⟨1088 + q, by omega⟩) := by
  refine (congrFun (V_before m c main_v55) _).trans ((laid_left (before m c) d (14336 + q) (by omega)).trans ?_)
  refine (cat_at _ _ 7 ?_ (before m c (Proc.tc.devRef main_v39) : FVec Ideal S2048x1024 .f32) ?_ 14336 ?_ d q (by omega) _ _ ?_).trans (piece_7 m c d q hq)
  · simp
  · rfl
  · simp
  · omega

theorem col_8 (d : Fin 2048) (q : ℕ) (hq : q < 1024) :
    (V m c main_v55 : FVec Ideal S2048x18944 .bf16) (ix2 d ⟨15360 + q, by omega⟩) = (m (c, Proc.tc.devRef main_arg3) : FVec Ideal S2048x18432 .f32) (ix2 d ⟨2112 + q, by omega⟩) := by
  refine (congrFun (V_before m c main_v55) _).trans ((laid_left (before m c) d (15360 + q) (by omega)).trans ?_)
  refine (cat_at _ _ 8 ?_ (before m c (Proc.tc.devRef main_v40) : FVec Ideal S2048x1024 .f32) ?_ 15360 ?_ d q (by omega) _ _ ?_).trans (piece_8 m c d q hq)
  · simp
  · rfl
  · simp
  · omega

theorem col_9 (d : Fin 2048) (q : ℕ) (hq : q < 512) :
    (V m c main_v55 : FVec Ideal S2048x18944 .bf16) (ix2 d ⟨16384 + q, by omega⟩) = (m (c, Proc.tc.devRef main_arg3) : FVec Ideal S2048x18432 .f32) (ix2 d ⟨0 + q, by omega⟩) := by
  refine (congrFun (V_before m c main_v55) _).trans ((laid_left (before m c) d (16384 + q) (by omega)).trans ?_)
  refine (cat_at _ _ 9 ?_ (before m c (Proc.tc.devRef main_v41) : FVec Ideal S2048x512 .f32) ?_ 16384 ?_ d q (by omega) _ _ ?_).trans (piece_9 m c d q hq)
  · simp
  · rfl
  · simp
  · omega

theorem col_10 (d : Fin 2048) (q : ℕ) (hq : q < 512) :
    (V m c main_v55 : FVec Ideal S2048x18944 .bf16) (ix2 d ⟨16896 + q, by omega⟩) = (m (c, Proc.tc.devRef main_arg3) : FVec Ideal S2048x18432 .f32) (ix2 d ⟨512 + q, by omega⟩) := by
  refine (congrFun (V_before m c main_v55) _).trans ((laid_left (before m c) d (16896 + q) (by omega)).trans ?_)
  refine (cat_at _ _ 10 ?_ (before m c (Proc.tc.devRef main_v42) : FVec Ideal S2048x512 .f32) ?_ 16896 ?_ d q (by omega) _ _ ?_).trans (piece_10 m c d q hq)
  · simp
  · rfl
  · simp
  · omega

theorem col_11 (d : Fin 2048) (q : ℕ) (hq : q < 256) :
    (V m c main_v55 : FVec Ideal S2048x18944 .bf16) (ix2 d ⟨17408 + q, by omega⟩) = (m (c, Proc.tc.devRef main_arg3) : FVec Ideal S2048x18432 .f32) (ix2 d ⟨3136 + q, by omega⟩) := by
  refine (congrFun (V_before m c main_v55) _).trans ((laid_left (before m c) d (17408 + q) (by omega)).trans ?_)
  refine (cat_at _ _ 11 ?_ (before m c (Proc.tc.devRef main_v43) : FVec Ideal S2048x256 .f32) ?_ 17408 ?_ d q (by omega) _ _ ?_).trans (piece_11 m c d q hq)
  · simp
  · rfl
  · simp
  · omega

theorem col_12 (d : Fin 2048) (q : ℕ) (hq : q < 256) :
    (V m c main_v55 : FVec Ideal S2048x18944 .bf16) (ix2 d ⟨17664 + q, by omega⟩) = (m (c, Proc.tc.devRef main_arg3) : FVec Ideal S2048x18432 .f32) (ix2 d ⟨3392 + q, by omega⟩) := by
  refine (congrFun (V_before m c main_v55) _).trans ((laid_left (before m c) d (17664 + q) (by omega)).trans ?_)
  refine (cat_at _ _ 12 ?_ (before m c (Proc.tc.devRef main_v44) : FVec Ideal S2048x256 .f32) ?_ 17664 ?_ d q (by omega) _ _ ?_).trans (piece_12 m c d q hq)
  · simp
  · rfl
  · simp
  · omega

theorem col_13 (d : Fin 2048) (q : ℕ) (hq : q < 160) :
    (V m c main_v55 : FVec Ideal S2048x18944 .bf16) (ix2 d ⟨17920 + q, by omega⟩) = (m (c, Proc.tc.devRef main_arg3) : FVec Ideal S2048x18432 .f32) (ix2 d ⟨10080 + q, by omega⟩) := by
  refine (congrFun (V_before m c main_v55) _).trans ((laid_left (before m c) d (17920 + q) (by omega)).trans ?_)
  refine (cat_at _ _ 13 ?_ (before m c (Proc.tc.devRef main_v45) : FVec Ideal S2048x256 .f32) ?_ 17920 ?_ d q (by omega) _ _ ?_).trans (piece_13 m c d q hq)
  · simp
  · rfl
  · simp
  · omega

theorem col_14 (d : Fin 2048) (q : ℕ) (hq : q < 128) :
    (V m c main_v55 : FVec Ideal S2048x18944 .bf16) (ix2 d ⟨18176 + q, by omega⟩) = (m (c, Proc.tc.devRef main_arg3) : FVec Ideal S2048x18432 .f32) (ix2 d ⟨9824 + q, by omega⟩) := by
  refine (congrFun (V_before m c main_v55) _).trans ((laid_left (before m c) d (18176 + q) (by omega)).trans ?_)
  refine (cat_at _ _ 14 ?_ (before m c (Proc.tc.devRef main_v46) : FVec Ideal S2048x128 .f32) ?_ 18176 ?_ d q (by omega) _ _ ?_).trans (piece_14 m c d q hq)
  · simp
  · rfl
  · simp
  · omega

theorem col_15 (d : Fin 2048) (q : ℕ) (hq : q < 128) :
    (V m c main_v55 : FVec Ideal S2048x18944 .bf16) (ix2 d ⟨18304 + q, by omega⟩) = (m (c, Proc.tc.devRef main_arg3) : FVec Ideal S2048x18432 .f32) (ix2 d ⟨9952 + q, by omega⟩) := by
  refine (congrFun (V_before m c main_v55) _).trans ((laid_left (before m c) d (18304 + q) (by omega)).trans ?_)
  refine (cat_at _ _ 15 ?_ (before m c (Proc.tc.devRef main_v47) : FVec Ideal S2048x128 .f32) ?_ 18304 ?_ d q (by omega) _ _ ?_).trans (piece_15 m c d q hq)
  · simp
  · rfl
  · simp
  · omega

theorem col_16 (d : Fin 2048) (q : ℕ) (hq : q < 64) :
    (V m c main_v55 : FVec Ideal S2048x18944 .bf16) (ix2 d ⟨18432 + q, by omega⟩) = (m (c, Proc.tc.devRef main_arg3) : FVec Ideal S2048x18432 .f32) (ix2 d ⟨1024 + q, by omega⟩) := by
  obtain ⟨z, hz⟩ := laid_right (before m c) d (0 + q) (by omega)
  refine (congrArg (fun n => (V m c main_v55 : FVec Ideal S2048x18944 .bf16) (ix2 d n)) (Fin.ext (by dsimp only; omega) : _ = (⟨18432 + (0 + q), by omega⟩ : Fin 18944))).trans ?_
  refine (congrFun (V_before m c main_v55) _).trans (hz.trans ?_)
  refine (cat_at _ _ 0 ?_ (before m c (Proc.tc.devRef main_v48) : FVec Ideal S2048x128 .f32) ?_ 0 ?_ d q (by omega) _ _ ?_).trans (piece_16 m c d q hq)
  · simp
  · rfl
  · simp
  · omega

theorem col_18 (d : Fin 2048) (q : ℕ) (hq : q < 32) :
    (V m c main_v55 : FVec Ideal S2048x18944 .bf16) (ix2 d ⟨18688 + q, by omega⟩) = (m (c, Proc.tc.devRef main_arg3) : FVec Ideal S2048x18432 .f32) (ix2 d ⟨3648 + q, by omega⟩) := by
  obtain ⟨z, hz⟩ := laid_right (before m c) d (256 + q) (by omega)
  refine (congrArg (fun n => (V m c main_v55 : FVec Ideal S2048x18944 .bf16) (ix2 d n)) (Fin.ext (by dsimp only; omega) : _ = (⟨18432 + (256 + q), by omega⟩ : Fin 18944))).trans ?_
  refine (congrFun (V_before m c main_v55) _).trans (hz.trans ?_)
  refine (cat_at _ _ 2 ?_ (before m c (Proc.tc.devRef main_v50) : FVec Ideal S2048x128 .f32) ?_ 256 ?_ d q (by omega) _ _ ?_).trans (piece_18 m c d q hq)
  · simp
  · rfl
  · simp
  · omega

/-- Every column of the layer is a column of the call: of its weights, and of its array. -/
theorem placed (j : Fin 18432) : ∃ n : Fin 18944, (∀ d : Fin 2048, (V m c main_v55 : FVec Ideal S2048x18944 .bf16) (ix2 d n)
      = (m (c, Proc.tc.devRef main_arg3) : FVec Ideal S2048x18432 .f32) (ix2 d j))
    ∧ ∀ (X : FVec Ideal S16384x18944 .bf16) (b : Fin 2) (l : Fin 8192), inOrder X (ix3 b l j) = X (ix2 ⟨b.val * 8192 + l.val, by omega⟩ n) := by
  obtain ⟨j, hj⟩ := j
  rcases Nat.lt_or_ge j 512 with h0 | h0
  · obtain ⟨q, rfl⟩ : ∃ q, j = 0 + q := ⟨j - 0, by omega⟩
    refine ⟨⟨16384 + q, by omega⟩, fun d => col_9 m c d q (by omega), fun X b l => ?_⟩
    exact (congrArg (fun n => inOrder X (ix3 b l n)) (Fin.ext (by dsimp only; omega))).trans ((inOrder_0 X b l (0 + q) (by omega)).trans
      (congrArg (fun n => X (ix2 _ n)) (Fin.ext (by dsimp only; omega))))
  rcases Nat.lt_or_ge j 1024 with h1 | h1
  · obtain ⟨q, rfl⟩ : ∃ q, j = 512 + q := ⟨j - 512, by omega⟩
    refine ⟨⟨16896 + q, by omega⟩, fun d => col_10 m c d q (by omega), fun X b l => ?_⟩
    exact (congrArg (fun n => inOrder X (ix3 b l n)) (Fin.ext (by dsimp only; omega))).trans ((inOrder_0 X b l (512 + q) (by omega)).trans
      (congrArg (fun n => X (ix2 _ n)) (Fin.ext (by dsimp only; omega))))
  rcases Nat.lt_or_ge j 1088 with h2 | h2
  · obtain ⟨q, rfl⟩ : ∃ q, j = 1024 + q := ⟨j - 1024, by omega⟩
    refine ⟨⟨18432 + q, by omega⟩, fun d => col_16 m c d q (by omega), fun X b l => ?_⟩
    exact (congrArg (fun n => inOrder X (ix3 b l n)) (Fin.ext (by dsimp only; omega))).trans ((inOrder_1 X b l (0 + q) (by omega)).trans
      (congrArg (fun n => X (ix2 _ n)) (Fin.ext (by dsimp only; omega))))
  rcases Nat.lt_or_ge j 2112 with h3 | h3
  · obtain ⟨q, rfl⟩ : ∃ q, j = 1088 + q := ⟨j - 1088, by omega⟩
    refine ⟨⟨14336 + q, by omega⟩, fun d => col_7 m c d q (by omega), fun X b l => ?_⟩
    exact (congrArg (fun n => inOrder X (ix3 b l n)) (Fin.ext (by dsimp only; omega))).trans ((inOrder_2 X b l (0 + q) (by omega)).trans
      (congrArg (fun n => X (ix2 _ n)) (Fin.ext (by dsimp only; omega))))
  rcases Nat.lt_or_ge j 3136 with h4 | h4
  · obtain ⟨q, rfl⟩ : ∃ q, j = 2112 + q := ⟨j - 2112, by omega⟩
    refine ⟨⟨15360 + q, by omega⟩, fun d => col_8 m c d q (by omega), fun X b l => ?_⟩
    exact (congrArg (fun n => inOrder X (ix3 b l n)) (Fin.ext (by dsimp only; omega))).trans ((inOrder_2 X b l (1024 + q) (by omega)).trans
      (congrArg (fun n => X (ix2 _ n)) (Fin.ext (by dsimp only; omega))))
  rcases Nat.lt_or_ge j 3392 with h5 | h5
  · obtain ⟨q, rfl⟩ : ∃ q, j = 3136 + q := ⟨j - 3136, by omega⟩
    refine ⟨⟨17408 + q, by omega⟩, fun d => col_11 m c d q (by omega), fun X b l => ?_⟩
    exact (congrArg (fun n => inOrder X (ix3 b l n)) (Fin.ext (by dsimp only; omega))).trans ((inOrder_3 X b l (0 + q) (by omega)).trans
      (congrArg (fun n => X (ix2 _ n)) (Fin.ext (by dsimp only; omega))))
  rcases Nat.lt_or_ge j 3648 with h6 | h6
  · obtain ⟨q, rfl⟩ : ∃ q, j = 3392 + q := ⟨j - 3392, by omega⟩
    refine ⟨⟨17664 + q, by omega⟩, fun d => col_12 m c d q (by omega), fun X b l => ?_⟩
    exact (congrArg (fun n => inOrder X (ix3 b l n)) (Fin.ext (by dsimp only; omega))).trans ((inOrder_3 X b l (256 + q) (by omega)).trans
      (congrArg (fun n => X (ix2 _ n)) (Fin.ext (by dsimp only; omega))))
  rcases Nat.lt_or_ge j 3680 with h7 | h7
  · obtain ⟨q, rfl⟩ : ∃ q, j = 3648 + q := ⟨j - 3648, by omega⟩
    refine ⟨⟨18688 + q, by omega⟩, fun d => col_18 m c d q (by omega), fun X b l => ?_⟩
    exact (congrArg (fun n => inOrder X (ix3 b l n)) (Fin.ext (by dsimp only; omega))).trans ((inOrder_4 X b l (0 + q) (by omega)).trans
      (congrArg (fun n => X (ix2 _ n)) (Fin.ext (by dsimp only; omega))))
  rcases Nat.lt_or_ge j 4704 with h8 | h8
  · obtain ⟨q, rfl⟩ : ∃ q, j = 3680 + q := ⟨j - 3680, by omega⟩
    refine ⟨⟨8192 + q, by omega⟩, fun d => col_1 m c d q (by omega), fun X b l => ?_⟩
    exact (congrArg (fun n => inOrder X (ix3 b l n)) (Fin.ext (by dsimp only; omega))).trans ((inOrder_5 X b l (0 + q) (by omega)).trans
      (congrArg (fun n => X (ix2 _ n)) (Fin.ext (by dsimp only; omega))))
  rcases Nat.lt_or_ge j 5728 with h9 | h9
  · obtain ⟨q, rfl⟩ : ∃ q, j = 4704 + q := ⟨j - 4704, by omega⟩
    refine ⟨⟨9216 + q, by omega⟩, fun d => col_2 m c d q (by omega), fun X b l => ?_⟩
    exact (congrArg (fun n => inOrder X (ix3 b l n)) (Fin.ext (by dsimp only; omega))).trans ((inOrder_5 X b l (1024 + q) (by omega)).trans
      (congrArg (fun n => X (ix2 _ n)) (Fin.ext (by dsimp only; omega))))
  rcases Nat.lt_or_ge j 6752 with h10 | h10
  · obtain ⟨q, rfl⟩ : ∃ q, j = 5728 + q := ⟨j - 5728, by omega⟩
    refine ⟨⟨10240 + q, by omega⟩, fun d => col_3 m c d q (by omega), fun X b l => ?_⟩
    exact (congrArg (fun n => inOrder X (ix3 b l n)) (Fin.ext (by dsimp only; omega))).trans ((inOrder_5 X b l (2048 + q) (by omega)).trans
      (congrArg (fun n => X (ix2 _ n)) (Fin.ext (by dsimp only; omega))))
  rcases Nat.lt_or_ge j 7776 with h11 | h11
  · obtain ⟨q, rfl⟩ : ∃ q, j = 6752 + q := ⟨j - 6752, by omega⟩
    refine ⟨⟨11264 + q, by omega⟩, fun d => col_4 m c d q (by omega), fun X b l => ?_⟩
    exact (congrArg (fun n => inOrder X (ix3 b l n)) (Fin.ext (by dsimp only; omega))).trans ((inOrder_6 X b l (0 + q) (by omega)).trans
      (congrArg (fun n => X (ix2 _ n)) (Fin.ext (by dsimp only; omega))))
  rcases Nat.lt_or_ge j 8800 with h12 | h12
  · obtain ⟨q, rfl⟩ : ∃ q, j = 7776 + q := ⟨j - 7776, by omega⟩
    refine ⟨⟨12288 + q, by omega⟩, fun d => col_5 m c d q (by omega), fun X b l => ?_⟩
    exact (congrArg (fun n => inOrder X (ix3 b l n)) (Fin.ext (by dsimp only; omega))).trans ((inOrder_6 X b l (1024 + q) (by omega)).trans
      (congrArg (fun n => X (ix2 _ n)) (Fin.ext (by dsimp only; omega))))
  rcases Nat.lt_or_ge j 9824 with h13 | h13
  · obtain ⟨q, rfl⟩ : ∃ q, j = 8800 + q := ⟨j - 8800, by omega⟩
    refine ⟨⟨13312 + q, by omega⟩, fun d => col_6 m c d q (by omega), fun X b l => ?_⟩
    exact (congrArg (fun n => inOrder X (ix3 b l n)) (Fin.ext (by dsimp only; omega))).trans ((inOrder_6 X b l (2048 + q) (by omega)).trans
      (congrArg (fun n => X (ix2 _ n)) (Fin.ext (by dsimp only; omega))))
  rcases Nat.lt_or_ge j 9952 with h14 | h14
  · obtain ⟨q, rfl⟩ : ∃ q, j = 9824 + q := ⟨j - 9824, by omega⟩
    refine ⟨⟨18176 + q, by omega⟩, fun d => col_14 m c d q (by omega), fun X b l => ?_⟩
    exact (congrArg (fun n => inOrder X (ix3 b l n)) (Fin.ext (by dsimp only; omega))).trans ((inOrder_7 X b l (0 + q) (by omega)).trans
      (congrArg (fun n => X (ix2 _ n)) (Fin.ext (by dsimp only; omega))))
  rcases Nat.lt_or_ge j 10080 with h15 | h15
  · obtain ⟨q, rfl⟩ : ∃ q, j = 9952 + q := ⟨j - 9952, by omega⟩
    refine ⟨⟨18304 + q, by omega⟩, fun d => col_15 m c d q (by omega), fun X b l => ?_⟩
    exact (congrArg (fun n => inOrder X (ix3 b l n)) (Fin.ext (by dsimp only; omega))).trans ((inOrder_7 X b l (128 + q) (by omega)).trans
      (congrArg (fun n => X (ix2 _ n)) (Fin.ext (by dsimp only; omega))))
  rcases Nat.lt_or_ge j 10240 with h16 | h16
  · obtain ⟨q, rfl⟩ : ∃ q, j = 10080 + q := ⟨j - 10080, by omega⟩
    refine ⟨⟨17920 + q, by omega⟩, fun d => col_13 m c d q (by omega), fun X b l => ?_⟩
    exact (congrArg (fun n => inOrder X (ix3 b l n)) (Fin.ext (by dsimp only; omega))).trans ((inOrder_8 X b l (0 + q) (by omega)).trans
      (congrArg (fun n => X (ix2 _ n)) (Fin.ext (by dsimp only; omega))))
  · obtain ⟨q, rfl⟩ : ∃ q, j = 10240 + q := ⟨j - 10240, by omega⟩
    refine ⟨⟨0 + q, by omega⟩, fun d => col_0 m c d q (by omega), fun X b l => ?_⟩
    exact (congrArg (fun n => inOrder X (ix3 b l n)) (Fin.ext (by dsimp only; omega))).trans ((inOrder_9 X b l (0 + q) (by omega)).trans
      (congrArg (fun n => X (ix2 _ n)) (Fin.ext (by dsimp only; omega))))

/-- The result, at an index: the token's modulated row through the layer's weights. -/
theorem result_at (b : Fin 2) (l : Fin 8192) (j : Fin 18432) :
    (inOrder (product m c) (ix3 b l j) : EReal) = ∑ d : Fin 2048, tokenRow m c b l d * (m (c, Proc.tc.devRef main_arg3) : FVec Ideal S2048x18432 .f32) (ix2 d j) := by
  obtain ⟨n, hw, hX⟩ := placed m c j
  rw [hX]
  refine Finset.sum_congr rfl fun d _ => ?_
  have er : rowAt m c (b.val * 8192 + l.val) (by omega) d = tokenRow m c b l d := by
    unfold rowAt
    rw [show (⟨(b.val * 8192 + l.val) / 8192, by omega⟩ : Fin 2) = b from Fin.ext (by dsimp only; omega),
      show (⟨(b.val * 8192 + l.val) % 8192, by omega⟩ : Fin 8192) = l from Fin.ext (by dsimp only; omega)]
  rw [← er, ← hw d]
  rfl

/-- The result is any array that holds, at every token and column, the token's modulated row through the weights. -/
theorem result_eq (G : FVec Ideal S2x8192x18432 .bf16)
    (hG : ∀ (b : Fin 2) (l : Fin 8192) (j : Fin 18432), (G (ix3 b l j) : EReal)
      = ∑ d : Fin 2048, tokenRow m c b l d * (m (c, Proc.tc.devRef main_arg3) : FVec Ideal S2048x18432 .f32) (ix2 d j)) :
    inOrder (product m c) = G := by
  funext y
  have ey : y = ix3 (y 0) (y 1) (y 2) := by
    funext a
    fin_cases a <;> rfl
  rw [ey]
  exact (result_at m c _ _ _).trans (hG _ _ _).symm

end Cert.InProjIdeal.Value

end
-- ==== Proof.InProjRun.lean ====
/- The input projection's program runs to its array, the columns in the layer's order. -/
module

public import proofs.«01_k».proof.Proof.InProjArray
public import proofs.«01_k».proof.Proof.InProjShaped

@[expose] public section

set_option maxRecDepth 16384

noncomputable section

open Idealize.ShloMosaic Idealize.ShloMosaic.TcCoe Idealize.SL.Sem
open Idealize.ShloMosaic.Pipeline (Dat)

namespace Cert.InProjIdeal.Value

open Cert.InProjIdeal Cert.InProjIdeal.Gen

variable (m : (ℓ : Loc nD τ sig) → Buf (Elt Ideal) ℓ) (g : Dev nD → PrngReg)

/-- The buffers after the call, at its array. -/
theorem tail_eq (c : Dev nD) : Pipeline.afterTail₀ cfgs (dats m) 0 (V0 m) [hostOps1] c main_v68 = inOrder (product m c) := by
  unfold Pipeline.afterTail₀
  rw [List.flatten_singleton, shaped]
  exact congrArg inOrder ((Pipeline.withArrays_arr spec0 launch0.win.arr_inj c (V0 m c) (fun w => (dats m 0 c).arrAt w cfg0.N) 4).trans (array_eq m c))

/-- The program runs to its result. -/
theorem run_result : θ_run (defs (F := Ideal)) (onTc (τ := τ) (main (F := Ideal))) ⟨m, fun _ => 0, g⟩ (fun r => ∀ c : Dev nD,
      r.2.mem ((c.tc : Thread nD τ).loc main_v68) = inOrder (product m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run _ _ _).mono (fun r h c => ⟨((h.2 c).2 main_v68 (Pipeline.mem_restRefs_of main_v68 (by decide) (by decide))).trans (tail_eq m c), h.1 c⟩)
    (θ_run_and (unchanged m g) (run_main m g))

end Cert.InProjIdeal.Value

end
-- ==== Proof.InProjRef.lean ====
/- The reference of the input projection, at an index. -/
module

public import proofs.«01_k».proof.Proof.InProjBlock
public import proofs.«01_k».proof.Proof.Gen.InProjReferenceIdeal
public import proofs.«01_k».proof.Proof.Gen.InProjReferenceIdeal.Run
public import Idealize.ShloMosaic.Lib.Pipeline.ReadBack
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.InProjReferenceIdeal.Value

open Cert.InProjReferenceIdeal Cert.InProjReferenceIdeal.Gen

open Cert.InProjIdeal.Value (mean modulated)

/-- The mean of each row. -/
def means (x : FVec Ideal S2x8192x2048 .f32) : FVec Ideal S2x8192x1 .f32 :=
  Host.divf (broadcastInDim S2x8192x1 ![0, 1] bcast_S2x8192_S2x8192x1_0_1 (Host.reduceAdd x (constant S_ .f32 0x00000000#32) reducesTo_S2x8192x2048_S2x8192_d2 h_S_)) (broadcastInDim S2x8192x1 ![] bcast_S_S2x8192x1 (constant S_ .f32 0x45000000#32))

/-- The rows less their means. -/
def centred (x : FVec Ideal S2x8192x2048 .f32) : FVec Ideal S2x8192x2048 .f32 :=
  subf x (broadcastInDim S2x8192x2048 ![0, 1, 2] bcast_S2x8192x1_S2x8192x2048_0_1_2 (means x))

/-- Centred rows over the root of their mean square. -/
def scaled (y : FVec Ideal S2x8192x2048 .f32) : FVec Ideal S2x8192x2048 .f32 :=
  mulf y (broadcastInDim S2x8192x2048 ![0, 1, 2] bcast_S2x8192x1_S2x8192x2048_0_1_2 (Host.rsqrt (addf (means (mulf y y)) (broadcastInDim S2x8192x1 ![] bcast_S_S2x8192x1 (constant S_ .f32 0x358637BD#32)))))

/-- Rows times one plus the scale, plus the shift. -/
def moved (y : FVec Ideal S2x8192x2048 .f32) (t s : FVec Ideal S2x2048 .f32) : FVec Ideal S2x8192x2048 .f32 :=
  addf (mulf y (broadcastInDim S2x8192x2048 ![0, 1, 2] bcast_S2x1x2048_S2x8192x2048_0_1_2 (addf (broadcastInDim S2x1x2048 ![] bcast_S_S2x1x2048 (constant S_ .f32 0x3F800000#32)) (broadcastInDim S2x1x2048 ![0, 2] bcast_S2x2048_S2x1x2048_0_2 s))))
    (broadcastInDim S2x8192x2048 ![0, 1, 2] bcast_S2x1x2048_S2x8192x2048_0_1_2 (broadcastInDim S2x1x2048 ![0, 2] bcast_S2x2048_S2x1x2048_0_2 t))

/-- Rows through the weights. -/
def through (y : FVec Ideal S2x8192x2048 .f32) (w : FVec Ideal S2048x18432 .f32) : FVec Ideal S2x8192x18432 .bf16 :=
  truncf .bf16 (Host.dotGeneral dot_S2x8192x2048_S2048x18432_S2x8192x18432_2_0_01_1_n_n none y w) bitsLt_bf16_f32

theorem means_at (x : FVec Ideal S2x8192x2048 .f32) (b : Fin 2) (l : Fin 8192) : (means x (ix3 b l 0) : EReal) = mean fun d => x (ix3 b l d) := by
  unfold means
  pointwise [mean]

theorem centred_at (x : FVec Ideal S2x8192x2048 .f32) (b : Fin 2) (l : Fin 8192) (d : Fin 2048) :
    (centred x (ix3 b l d) : EReal) = x (ix3 b l d) - means x (ix3 b l 0) := by
  unfold centred
  pointwise

theorem scaled_at (y : FVec Ideal S2x8192x2048 .f32) (b : Fin 2) (l : Fin 8192) (d : Fin 2048) :
    (scaled y (ix3 b l d) : EReal) = y (ix3 b l d) * Ideal.rsqrt (means (mulf y y) (ix3 b l 0) + Ideal.ofBits .f32 0x358637BD#32) := by
  unfold scaled
  pointwise

theorem moved_at (y : FVec Ideal S2x8192x2048 .f32) (t s : FVec Ideal S2x2048 .f32) (b : Fin 2) (l : Fin 8192) (d : Fin 2048) :
    (moved y t s (ix3 b l d) : EReal) = y (ix3 b l d) * (Ideal.ofBits .f32 0x3F800000#32 + s (ix2 b d)) + t (ix2 b d) := by
  unfold moved
  pointwise

theorem through_at (y : FVec Ideal S2x8192x2048 .f32) (w : FVec Ideal S2048x18432 .f32) (b : Fin 2) (l : Fin 8192) (j : Fin 18432) :
    (through y w (ix3 b l j) : EReal) = ∑ d : Fin 2048, y (ix3 b l d) * w (ix2 d j) := by
  unfold through
  pointwise

/-- The reference's result over given arguments. -/
def result (x : FVec Ideal S2x8192x2048 .f32) (t s : FVec Ideal S2x2048 .f32) (w : FVec Ideal S2048x18432 .f32) : FVec Ideal S2x8192x18432 .bf16 :=
  through (moved (scaled (centred x)) t s) w

/-- The reference's result, at an index. -/
theorem result_at (x : FVec Ideal S2x8192x2048 .f32) (t s : FVec Ideal S2x2048 .f32) (w : FVec Ideal S2048x18432 .f32) (b : Fin 2) (l : Fin 8192) (j : Fin 18432) :
    (result x t s w (ix3 b l j) : EReal)
      = ∑ d : Fin 2048, modulated (fun d => x (ix3 b l d)) (fun d => t (ix2 b d)) (fun d => s (ix2 b d)) d * w (ix2 d j) := by
  unfold result
  rw [through_at]
  refine Finset.sum_congr rfl fun d _ => ?_
  congr 1
  rw [moved_at, scaled_at, means_at]
  have e : ∀ d, ((mulf (centred x) (centred x)) (ix3 b l d) : EReal) = centred x (ix3 b l d) * centred x (ix3 b l d) := fun d => by pointwise
  simp only [e, centred_at, means_at]
  rfl

/-- The reference runs to its result. -/
theorem run_result (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v27) = result (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  unfold result through moved scaled centred means
  exact run (F := Ideal) m g

end Cert.InProjReferenceIdeal.Value

end
-- ==== Proof.lean ====
/- The claims put together: of the attention, of the experts and of the input projection, the two programs' frames, the reference's, and the equation of
   their results (the attention's over finite queries and keys). -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Experts
public import proofs.«01_k».proof.Proof.Gen.Experts.Frame
public import proofs.«01_k».proof.Proof.Gen.ExpertsIdeal
public import proofs.«01_k».proof.Proof.Gen.ExpertsIdeal.Frame
public import proofs.«01_k».proof.Proof.Gen.ExpertsIdeal.Value
public import proofs.«01_k».proof.Proof.Gen.ExpertsReferenceIdeal
public import proofs.«01_k».proof.Proof.Gen.ExpertsReferenceIdeal.Run
public import proofs.«01_k».proof.Proof.Gen.InProj
public import proofs.«01_k».proof.Proof.Gen.InProj.Frame
public import proofs.«01_k».proof.Proof.Gen.InProjIdeal
public import proofs.«01_k».proof.Proof.Gen.InProjIdeal.Frame
public import proofs.«01_k».proof.Proof.Gen.InProjReferenceIdeal
public import proofs.«01_k».proof.Proof.Gen.InProjReferenceIdeal.Run
public import proofs.«01_k».proof.Proof.RefRun
public import proofs.«01_k».proof.Proof.Result
public import proofs.«01_k».proof.Proof.Pre
public import proofs.«01_k».proof.Proof.ExpertSum
public import proofs.«01_k».proof.Proof.ExpertRef
public import proofs.«01_k».proof.Proof.InProjColumns
public import proofs.«01_k».proof.Proof.InProjRun
public import proofs.«01_k».proof.Proof.InProjRef
public import Idealize.ShloMosaic.Adequacy
public import Idealize.ShloMosaic.Init
public import Idealize.ShloMosaic.Lib.Claim

@[expose] public section

noncomputable section

namespace Cert.Proof

open Idealize.ShloMosaic Idealize.ShloMosaic.TcCoe Idealize.SL.Sem

theorem frame_reference : Cert.quiescent_ReferenceIdeal (hReferenceIdeal := Cert.ReferenceIdeal.Gen.facts) := by
  intro m g _
  exact (θ_run _ _ _).mono (fun r h => ⟨fun c => (h c).2, Idealize.ShloMosaic.sem_eq_zero_of_no_sems (by decide) r.2⟩) (run_reference m g)

theorem frame_experts : Cert.quiescent_ExpertsReferenceIdeal (hExpertsReferenceIdeal := Cert.ExpertsReferenceIdeal.Gen.facts) := by
  intro m g _
  exact (θ_run _ _ _).mono (fun r h => ⟨fun c => (h c).2, Idealize.ShloMosaic.sem_eq_zero_of_no_sems (by decide) r.2⟩) (Cert.ExpertsReferenceIdeal.Value.run_result m g)

theorem algebraic_experts : Cert.algebraic_ExpertsIdeal_ExpertsReferenceIdeal (hExpertsIdeal := Cert.ExpertsIdeal.Gen.facts) (hExpertsReferenceIdeal := Cert.ExpertsReferenceIdeal.Gen.facts) := by
  intro m g m' g' _ he
  refine ⟨fun c => Cert.ExpertsReferenceIdeal.Value.result (m ((c.tc : Thread _ _).loc Cert.ExpertsIdeal.main_arg0)) (m ((c.tc : Thread _ _).loc Cert.ExpertsIdeal.main_arg1)) (m ((c.tc : Thread _ _).loc Cert.ExpertsIdeal.main_arg2)) (m ((c.tc : Thread _ _).loc Cert.ExpertsIdeal.main_arg3)) (m ((c.tc : Thread _ _).loc Cert.ExpertsIdeal.main_arg4)), ?_, ?_⟩
  · refine (θ_run _ _ _).mono (fun r h c => ⟨(h c).1.trans ?_, (h c).2⟩) (Cert.ExpertsIdeal.Value.run_blocks m g)
    refine Cert.ExpertsIdeal.Value.result_eq m c _ fun s e r j => ?_
    refine (Cert.ExpertsReferenceIdeal.Value.result_at _ _ _ _ _ s e r j).trans ?_
    exact congrArg (· * _) (Finset.sum_congr rfl fun k _ => (Cert.ExpertsIdeal.Value.term_of_lt m c s e r j k).symm)
  · refine (θ_run _ _ _).mono (fun r h c => ⟨(h c).1.trans ?_, (h c).2⟩) (Cert.ExpertsReferenceIdeal.Value.run_result m' g')
    obtain ⟨h0, h1, h2, h3, h4⟩ := he c
    rw [h0, h1, h2, h3, h4]

theorem frame_inproj : Cert.quiescent_InProjReferenceIdeal (hInProjReferenceIdeal := Cert.InProjReferenceIdeal.Gen.facts) := by
  intro m g _
  exact (θ_run _ _ _).mono (fun r h => ⟨fun c => (h c).2, Idealize.ShloMosaic.sem_eq_zero_of_no_sems (by decide) r.2⟩) (Cert.InProjReferenceIdeal.Value.run_result m g)

theorem algebraic_inproj : Cert.algebraic_InProjIdeal_InProjReferenceIdeal (hInProjIdeal := Cert.InProjIdeal.Gen.facts) (hInProjReferenceIdeal := Cert.InProjReferenceIdeal.Gen.facts) := by
  intro m g m' g' _ he
  refine ⟨fun c => Cert.InProjReferenceIdeal.Value.result (m ((c.tc : Thread _ _).loc Cert.InProjIdeal.main_arg0)) (m ((c.tc : Thread _ _).loc Cert.InProjIdeal.main_arg1)) (m ((c.tc : Thread _ _).loc Cert.InProjIdeal.main_arg2)) (m ((c.tc : Thread _ _).loc Cert.InProjIdeal.main_arg3)), ?_, ?_⟩
  · refine (θ_run _ _ _).mono (fun r h c => ⟨(h c).1.trans ?_, (h c).2⟩) (Cert.InProjIdeal.Value.run_result m g)
    exact Cert.InProjIdeal.Value.result_eq m c _ fun b l j => Cert.InProjReferenceIdeal.Value.result_at _ _ _ _ b l j
  · refine (θ_run _ _ _).mono (fun r h c => ⟨(h c).1.trans ?_, (h c).2⟩) (Cert.InProjReferenceIdeal.Value.run_result m' g')
    obtain ⟨h0, h1, h2, h3⟩ := he c
    rw [h0, h1, h2, h3]

theorem claim : Cert.Claim := ⟨Cert.Kernel.Gen.facts, Cert.KernelIdeal.Gen.facts, Cert.ReferenceIdeal.Gen.facts, Cert.Experts.Gen.facts, Cert.ExpertsIdeal.Gen.facts, Cert.ExpertsReferenceIdeal.Gen.facts, Cert.InProj.Gen.facts, Cert.InProjIdeal.Gen.facts, Cert.InProjReferenceIdeal.Gen.facts, Cert.Pre_finite_scores.Value.facts,
  fun m g _ => Cert.Kernel.Gen.frame m g,
  fun m g _ => Cert.KernelIdeal.Gen.frame m g,
  fun m g _ => Cert.KernelIdeal.Gen.frame m g,
  frame_reference,
  fun m g _ => frame_reference m g trivial,
  fun m g _ => Cert.Experts.Gen.frame m g,
  fun m g _ => Cert.ExpertsIdeal.Gen.frame m g,
  frame_experts,
  fun m g _ => Cert.InProj.Gen.frame m g,
  fun m g _ => Cert.InProjIdeal.Gen.frame m g,
  frame_inproj,
  trivial,
  by
    intro m g m' g' hp he
    refine ⟨fun c => result (m ((c.tc : Thread _ _).loc Cert.KernelIdeal.main_arg0)) (m ((c.tc : Thread _ _).loc Cert.KernelIdeal.main_arg1)) (m ((c.tc : Thread _ _).loc Cert.KernelIdeal.main_arg2)) (m ((c.tc : Thread _ _).loc Cert.KernelIdeal.main_arg3)) (m ((c.tc : Thread _ _).loc Cert.KernelIdeal.main_arg4)), ?_, ?_⟩
    · refine (θ_run _ _ _).mono (fun r h c => ⟨(h c).1.trans ?_, (h c).2⟩) (Cert.KernelIdeal.Value.run_blocks m g)
      obtain ⟨hq, hkc, hkl⟩ := Cert.Pre_finite_scores.Value.finite_of _ _ _ _ _ (hp c)
      exact result_kernel m c _ _ _ _ _ rfl rfl rfl rfl rfl hq hkc hkl
    · refine (θ_run _ _ _).mono (fun r h c => ⟨(h c).1.trans ?_, (h c).2⟩) (run_reference m' g')
      obtain ⟨h0, h1, h2, h3, h4⟩ := he c
      rw [h0, h1, h2, h3, h4],
  trivial,
  algebraic_experts,
  trivial,
  algebraic_inproj⟩

end Cert.Proof

end
